-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 4096, 1024]⟩ ⟨3, ![4, 4096, 1024]⟩ (Layout.meshBlock [2, 4, 4] ![[1], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = Layout.blockN ⟨2, ![1024, 1024]⟩ ⟨2, ![4096, 1024]⟩ (Layout.meshBlock [2, 4, 4] ![[1], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x4096x1024 : Shape := ⟨3, ![1, 4096, 1024]⟩
abbrev S1024 : Shape := ⟨1, ![1024]⟩
abbrev S4096x1024 : Shape := ⟨2, ![4096, 1024]⟩
abbrev S1x1024 : Shape := ⟨2, ![1, 1024]⟩
abbrev S1024x1024 : Shape := ⟨2, ![1024, 1024]⟩
abbrev S4x3x32x1024 : Shape := ⟨4, ![4, 3, 32, 1024]⟩
abbrev S12 : Shape := ⟨1, ![12]⟩
abbrev S16 : Shape := ⟨1, ![16]⟩
abbrev S_ : Shape := ⟨0, ![]⟩
abbrev S1 : Shape := ⟨1, ![1]⟩
abbrev S1x1x32x1024 : Shape := ⟨4, ![1, 1, 32, 1024]⟩
abbrev S32x1024 : Shape := ⟨2, ![32, 1024]⟩
abbrev S32 : Shape := ⟨1, ![32]⟩
abbrev S32x1 : Shape := ⟨2, ![32, 1]⟩

abbrev nBuf : Space → Nat
  | .hbm => 5
  | .vmem => 4
  | .smem => 0
  | _ => 0

abbrev bufTy : (tb : Table) → Fin (tcTables nBuf tb) → BufTy
  | .hbm, ⟨0, _⟩ => ⟨S1x4096x1024, .f32⟩
  | .hbm, ⟨1, _⟩ => ⟨S1024, .f32⟩
  | .hbm, ⟨2, _⟩ => ⟨S4096x1024, .f32⟩
  | .hbm, ⟨3, _⟩ => ⟨S1x1024, .f32⟩
  | .hbm, ⟨4, _⟩ => ⟨S1024x1024, .f32⟩
  | .local _ .vmem, ⟨0, _⟩ => ⟨S4096x1024, .f32⟩
  | .local _ .vmem, ⟨1, _⟩ => ⟨S1x1024, .f32⟩
  | .local _ .vmem, ⟨2, _⟩ => ⟨S1024x1024, .f32⟩
  | .local _ .vmem, ⟨3, _⟩ => ⟨S4x3x32x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 83 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | _ => false

abbrev sig : RefSig :=
  (ofTc nBuf bufTy 1 83 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_54 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_53 : BitVec 32 := 16#32
  let v106 : BitVec 32 := Scalar.muli v2 c16_i32_53
  let v107 : BitVec 32 := Scalar.addi c0_i32_54 v106
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_45 : BitVec 32 := 1#32
  let v95 : BitVec 32 := Scalar.addi v5 c1_i32_45
  let c4_i32_46 : BitVec 32 := 4#32
  let c0_i32_47 : BitVec 32 := 0#32
  let v96 : BitVec 1 := Scalar.cmpi .eq c4_i32_46 c0_i32_47
  let c1_i32_48 : BitVec 32 := 1#32
  let v97 : BitVec 32 := Scalar.select v96 c1_i32_48 c4_i32_46
  let v98 : BitVec 32 := Scalar.remsi v95 v97
  let c0_i32_50 : BitVec 32 := 0#32
  let v100 : BitVec 1 := Scalar.cmpi .slt v98 c0_i32_50
  let c0_i32_51 : BitVec 32 := 0#32
  let v101 : BitVec 1 := Scalar.cmpi .slt v97 c0_i32_51
  let v102 : BitVec 1 := Scalar.xori v100 v101
  let c0_i32_49 : BitVec 32 := 0#32
  let v99 : BitVec 1 := Scalar.cmpi .ne v98 c0_i32_49
  let v103 : BitVec 1 := Scalar.andi v102 v99
  let v104 : BitVec 32 := Scalar.addi v98 v97
  let v105 : BitVec 32 := Scalar.select v103 v104 v98
  let c4_i32_55 : BitVec 32 := 4#32
  let v108 : BitVec 32 := Scalar.muli v105 c4_i32_55
  let v109 : BitVec 32 := Scalar.addi v107 v108
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_56 : BitVec 32 := 1#32
  let v110 : BitVec 32 := Scalar.muli v8 c1_i32_56
  let v111 : BitVec 32 := Scalar.addi v109 v110
  v111.toNat
def k0_dev2 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v123 : BitVec 32 := Scalar.muli v2 c16_i32_65
  let v124 : BitVec 32 := Scalar.addi c0_i32_66 v123
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_57 : BitVec 32 := 2#32
  let v112 : BitVec 32 := Scalar.addi v5 c2_i32_57
  let c4_i32_58 : BitVec 32 := 4#32
  let c0_i32_59 : BitVec 32 := 0#32
  let v113 : BitVec 1 := Scalar.cmpi .eq c4_i32_58 c0_i32_59
  let c1_i32_60 : BitVec 32 := 1#32
  let v114 : BitVec 32 := Scalar.select v113 c1_i32_60 c4_i32_58
  let v115 : BitVec 32 := Scalar.remsi v112 v114
  let c0_i32_62 : BitVec 32 := 0#32
  let v117 : BitVec 1 := Scalar.cmpi .slt v115 c0_i32_62
  let c0_i32_63 : BitVec 32 := 0#32
  let v118 : BitVec 1 := Scalar.cmpi .slt v114 c0_i32_63
  let v119 : BitVec 1 := Scalar.xori v117 v118
  let c0_i32_61 : BitVec 32 := 0#32
  let v116 : BitVec 1 := Scalar.cmpi .ne v115 c0_i32_61
  let v120 : BitVec 1 := Scalar.andi v119 v116
  let v121 : BitVec 32 := Scalar.addi v115 v114
  let v122 : BitVec 32 := Scalar.select v120 v121 v115
  let c4_i32_67 : BitVec 32 := 4#32
  let v125 : BitVec 32 := Scalar.muli v122 c4_i32_67
  let v126 : BitVec 32 := Scalar.addi v124 v125
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v127 : BitVec 32 := Scalar.muli v8 c1_i32_68
  let v128 : BitVec 32 := Scalar.addi v126 v127
  v128.toNat
def k0_dev3 (d0 : Dev nD) : Nat :=
  let c0_i32_77 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_76 : BitVec 32 := 16#32
  let v140 : BitVec 32 := Scalar.muli v2 c16_i32_76
  let v141 : BitVec 32 := Scalar.addi c0_i32_77 v140
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32 : BitVec 32 := 3#32
  let v129 : BitVec 32 := Scalar.addi v5 c3_i32
  let c4_i32_69 : BitVec 32 := 4#32
  let c0_i32_70 : BitVec 32 := 0#32
  let v130 : BitVec 1 := Scalar.cmpi .eq c4_i32_69 c0_i32_70
  let c1_i32_71 : BitVec 32 := 1#32
  let v131 : BitVec 32 := Scalar.select v130 c1_i32_71 c4_i32_69
  let v132 : BitVec 32 := Scalar.remsi v129 v131
  let c0_i32_73 : BitVec 32 := 0#32
  let v134 : BitVec 1 := Scalar.cmpi .slt v132 c0_i32_73
  let c0_i32_74 : BitVec 32 := 0#32
  let v135 : BitVec 1 := Scalar.cmpi .slt v131 c0_i32_74
  let v136 : BitVec 1 := Scalar.xori v134 v135
  let c0_i32_72 : BitVec 32 := 0#32
  let v133 : BitVec 1 := Scalar.cmpi .ne v132 c0_i32_72
  let v137 : BitVec 1 := Scalar.andi v136 v133
  let v138 : BitVec 32 := Scalar.addi v132 v131
  let v139 : BitVec 32 := Scalar.select v137 v138 v132
  let c4_i32_78 : BitVec 32 := 4#32
  let v142 : BitVec 32 := Scalar.muli v139 c4_i32_78
  let v143 : BitVec 32 := Scalar.addi v141 v142
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_79 : BitVec 32 := 1#32
  let v144 : BitVec 32 := Scalar.muli v8 c1_i32_79
  let v145 : BitVec 32 := Scalar.addi v143 v144
  v145.toNat
def k0_dev4 (d0 : Dev nD) : Nat :=
  let c0_i32_82 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_81 : BitVec 32 := 16#32
  let v146 : BitVec 32 := Scalar.muli v39 c16_i32_81
  let v147 : BitVec 32 := Scalar.addi c0_i32_82 v146
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_83 : BitVec 32 := 4#32
  let v148 : BitVec 32 := Scalar.muli v5 c4_i32_83
  let v149 : BitVec 32 := Scalar.addi v147 v148
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_84 : BitVec 32 := 1#32
  let v150 : BitVec 32 := Scalar.muli v52 c1_i32_84
  let v151 : BitVec 32 := Scalar.addi v149 v150
  v151.toNat
def k0_dev5 (d0 : Dev nD) : Nat :=
  let c0_i32_87 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_86 : BitVec 32 := 16#32
  let v152 : BitVec 32 := Scalar.muli v80 c16_i32_86
  let v153 : BitVec 32 := Scalar.addi c0_i32_87 v152
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_88 : BitVec 32 := 4#32
  let v154 : BitVec 32 := Scalar.muli v5 c4_i32_88
  let v155 : BitVec 32 := Scalar.addi v153 v154
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_89 : BitVec 32 := 1#32
  let v156 : BitVec 32 := Scalar.muli v93 c1_i32_89
  let v157 : BitVec 32 := Scalar.addi v155 v156
  v157.toNat
def k0_off1 (d0 : Dev nD) (c1_i32_90 : BitVec 32) (c0_i32_97 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v158 : BitVec 32 := Scalar.addi v5 c1_i32_90
  let c4_i32_91 : BitVec 32 := 4#32
  let c0_i32_92 : BitVec 32 := 0#32
  let v159 : BitVec 1 := Scalar.cmpi .eq c4_i32_91 c0_i32_92
  let c1_i32_93 : BitVec 32 := 1#32
  let v160 : BitVec 32 := Scalar.select v159 c1_i32_93 c4_i32_91
  let v161 : BitVec 32 := Scalar.remsi v158 v160
  let c0_i32_95 : BitVec 32 := 0#32
  let v163 : BitVec 1 := Scalar.cmpi .slt v161 c0_i32_95
  let c0_i32_96 : BitVec 32 := 0#32
  let v164 : BitVec 1 := Scalar.cmpi .slt v160 c0_i32_96
  let v165 : BitVec 1 := Scalar.xori v163 v164
  let c0_i32_94 : BitVec 32 := 0#32
  let v162 : BitVec 1 := Scalar.cmpi .ne v161 c0_i32_94
  let v166 : BitVec 1 := Scalar.andi v165 v162
  let v167 : BitVec 32 := Scalar.addi v161 v160
  let v168 : BitVec 32 := Scalar.select v166 v167 v161
  let c1024_i32 : BitVec 32 := 1024#32
  let v169 : BitVec 32 := Scalar.muli v168 c1024_i32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32 : BitVec 32 := 128#32
  let v170 : BitVec 32 := Scalar.muli v11 c128_i32
  let v171 : BitVec 32 := Scalar.addi v169 v170
  let v172 : BitVec 32 := Scalar.addi v171 c0_i32_97
  let c0_i32_128 : BitVec 32 := 0#32
  ![v172.toNat, 0]
def k0_dev6 (d0 : Dev nD) : Nat :=
  let c0_i32_123 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_122 : BitVec 32 := 16#32
  let v203 : BitVec 32 := Scalar.muli v2 c16_i32_122
  let v204 : BitVec 32 := Scalar.addi c0_i32_123 v203
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_90 : BitVec 32 := 1#32
  let v158 : BitVec 32 := Scalar.addi v5 c1_i32_90
  let c4_i32_91 : BitVec 32 := 4#32
  let c0_i32_92 : BitVec 32 := 0#32
  let v159 : BitVec 1 := Scalar.cmpi .eq c4_i32_91 c0_i32_92
  let c1_i32_93 : BitVec 32 := 1#32
  let v160 : BitVec 32 := Scalar.select v159 c1_i32_93 c4_i32_91
  let v161 : BitVec 32 := Scalar.remsi v158 v160
  let c0_i32_95 : BitVec 32 := 0#32
  let v163 : BitVec 1 := Scalar.cmpi .slt v161 c0_i32_95
  let c0_i32_96 : BitVec 32 := 0#32
  let v164 : BitVec 1 := Scalar.cmpi .slt v160 c0_i32_96
  let v165 : BitVec 1 := Scalar.xori v163 v164
  let c0_i32_94 : BitVec 32 := 0#32
  let v162 : BitVec 1 := Scalar.cmpi .ne v161 c0_i32_94
  let v166 : BitVec 1 := Scalar.andi v165 v162
  let v167 : BitVec 32 := Scalar.addi v161 v160
  let v168 : BitVec 32 := Scalar.select v166 v167 v161
  let c4_i32_124 : BitVec 32 := 4#32
  let v205 : BitVec 32 := Scalar.muli v168 c4_i32_124
  let v206 : BitVec 32 := Scalar.addi v204 v205
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_125 : BitVec 32 := 1#32
  let v207 : BitVec 32 := Scalar.muli v8 c1_i32_125
  let v208 : BitVec 32 := Scalar.addi v206 v207
  v208.toNat
def k0_dev7 (d0 : Dev nD) : Nat :=
  let c0_i32_134 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_133 : BitVec 32 := 16#32
  let v216 : BitVec 32 := Scalar.muli v2 c16_i32_133
  let v217 : BitVec 32 := Scalar.addi c0_i32_134 v216
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_98 : BitVec 32 := 2#32
  let v173 : BitVec 32 := Scalar.addi v5 c2_i32_98
  let c4_i32_99 : BitVec 32 := 4#32
  let c0_i32_100 : BitVec 32 := 0#32
  let v174 : BitVec 1 := Scalar.cmpi .eq c4_i32_99 c0_i32_100
  let c1_i32_101 : BitVec 32 := 1#32
  let v175 : BitVec 32 := Scalar.select v174 c1_i32_101 c4_i32_99
  let v176 : BitVec 32 := Scalar.remsi v173 v175
  let c0_i32_103 : BitVec 32 := 0#32
  let v178 : BitVec 1 := Scalar.cmpi .slt v176 c0_i32_103
  let c0_i32_104 : BitVec 32 := 0#32
  let v179 : BitVec 1 := Scalar.cmpi .slt v175 c0_i32_104
  let v180 : BitVec 1 := Scalar.xori v178 v179
  let c0_i32_102 : BitVec 32 := 0#32
  let v177 : BitVec 1 := Scalar.cmpi .ne v176 c0_i32_102
  let v181 : BitVec 1 := Scalar.andi v180 v177
  let v182 : BitVec 32 := Scalar.addi v176 v175
  let v183 : BitVec 32 := Scalar.select v181 v182 v176
  let c4_i32_135 : BitVec 32 := 4#32
  let v218 : BitVec 32 := Scalar.muli v183 c4_i32_135
  let v219 : BitVec 32 := Scalar.addi v217 v218
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_136 : BitVec 32 := 1#32
  let v220 : BitVec 32 := Scalar.muli v8 c1_i32_136
  let v221 : BitVec 32 := Scalar.addi v219 v220
  v221.toNat
def k0_dev8 (d0 : Dev nD) : Nat :=
  let c0_i32_145 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_144 : BitVec 32 := 16#32
  let v229 : BitVec 32 := Scalar.muli v2 c16_i32_144
  let v230 : BitVec 32 := Scalar.addi c0_i32_145 v229
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_108 : BitVec 32 := 3#32
  let v188 : BitVec 32 := Scalar.addi v5 c3_i32_108
  let c4_i32_109 : BitVec 32 := 4#32
  let c0_i32_110 : BitVec 32 := 0#32
  let v189 : BitVec 1 := Scalar.cmpi .eq c4_i32_109 c0_i32_110
  let c1_i32_111 : BitVec 32 := 1#32
  let v190 : BitVec 32 := Scalar.select v189 c1_i32_111 c4_i32_109
  let v191 : BitVec 32 := Scalar.remsi v188 v190
  let c0_i32_113 : BitVec 32 := 0#32
  let v193 : BitVec 1 := Scalar.cmpi .slt v191 c0_i32_113
  let c0_i32_114 : BitVec 32 := 0#32
  let v194 : BitVec 1 := Scalar.cmpi .slt v190 c0_i32_114
  let v195 : BitVec 1 := Scalar.xori v193 v194
  let c0_i32_112 : BitVec 32 := 0#32
  let v192 : BitVec 1 := Scalar.cmpi .ne v191 c0_i32_112
  let v196 : BitVec 1 := Scalar.andi v195 v192
  let v197 : BitVec 32 := Scalar.addi v191 v190
  let v198 : BitVec 32 := Scalar.select v196 v197 v191
  let c4_i32_146 : BitVec 32 := 4#32
  let v231 : BitVec 32 := Scalar.muli v198 c4_i32_146
  let v232 : BitVec 32 := Scalar.addi v230 v231
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_147 : BitVec 32 := 1#32
  let v233 : BitVec 32 := Scalar.muli v8 c1_i32_147
  let v234 : BitVec 32 := Scalar.addi v232 v233
  v234.toNat
def k0_dev9 (d0 : Dev nD) : Nat :=
  let c0_i32_209 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_208 : BitVec 32 := 16#32
  let v302 : BitVec 32 := Scalar.muli v2 c16_i32_208
  let v303 : BitVec 32 := Scalar.addi c0_i32_209 v302
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_175 : BitVec 32 := 1#32
  let v257 : BitVec 32 := Scalar.addi v5 c1_i32_175
  let c4_i32_176 : BitVec 32 := 4#32
  let c0_i32_177 : BitVec 32 := 0#32
  let v258 : BitVec 1 := Scalar.cmpi .eq c4_i32_176 c0_i32_177
  let c1_i32_178 : BitVec 32 := 1#32
  let v259 : BitVec 32 := Scalar.select v258 c1_i32_178 c4_i32_176
  let v260 : BitVec 32 := Scalar.remsi v257 v259
  let c0_i32_180 : BitVec 32 := 0#32
  let v262 : BitVec 1 := Scalar.cmpi .slt v260 c0_i32_180
  let c0_i32_181 : BitVec 32 := 0#32
  let v263 : BitVec 1 := Scalar.cmpi .slt v259 c0_i32_181
  let v264 : BitVec 1 := Scalar.xori v262 v263
  let c0_i32_179 : BitVec 32 := 0#32
  let v261 : BitVec 1 := Scalar.cmpi .ne v260 c0_i32_179
  let v265 : BitVec 1 := Scalar.andi v264 v261
  let v266 : BitVec 32 := Scalar.addi v260 v259
  let v267 : BitVec 32 := Scalar.select v265 v266 v260
  let c4_i32_210 : BitVec 32 := 4#32
  let v304 : BitVec 32 := Scalar.muli v267 c4_i32_210
  let v305 : BitVec 32 := Scalar.addi v303 v304
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_211 : BitVec 32 := 1#32
  let v306 : BitVec 32 := Scalar.muli v8 c1_i32_211
  let v307 : BitVec 32 := Scalar.addi v305 v306
  v307.toNat
def k0_dev10 (d0 : Dev nD) : Nat :=
  let c0_i32_220 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_219 : BitVec 32 := 16#32
  let v315 : BitVec 32 := Scalar.muli v2 c16_i32_219
  let v316 : BitVec 32 := Scalar.addi c0_i32_220 v315
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_184 : BitVec 32 := 2#32
  let v272 : BitVec 32 := Scalar.addi v5 c2_i32_184
  let c4_i32_185 : BitVec 32 := 4#32
  let c0_i32_186 : BitVec 32 := 0#32
  let v273 : BitVec 1 := Scalar.cmpi .eq c4_i32_185 c0_i32_186
  let c1_i32_187 : BitVec 32 := 1#32
  let v274 : BitVec 32 := Scalar.select v273 c1_i32_187 c4_i32_185
  let v275 : BitVec 32 := Scalar.remsi v272 v274
  let c0_i32_189 : BitVec 32 := 0#32
  let v277 : BitVec 1 := Scalar.cmpi .slt v275 c0_i32_189
  let c0_i32_190 : BitVec 32 := 0#32
  let v278 : BitVec 1 := Scalar.cmpi .slt v274 c0_i32_190
  let v279 : BitVec 1 := Scalar.xori v277 v278
  let c0_i32_188 : BitVec 32 := 0#32
  let v276 : BitVec 1 := Scalar.cmpi .ne v275 c0_i32_188
  let v280 : BitVec 1 := Scalar.andi v279 v276
  let v281 : BitVec 32 := Scalar.addi v275 v274
  let v282 : BitVec 32 := Scalar.select v280 v281 v275
  let c4_i32_221 : BitVec 32 := 4#32
  let v317 : BitVec 32 := Scalar.muli v282 c4_i32_221
  let v318 : BitVec 32 := Scalar.addi v316 v317
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_222 : BitVec 32 := 1#32
  let v319 : BitVec 32 := Scalar.muli v8 c1_i32_222
  let v320 : BitVec 32 := Scalar.addi v318 v319
  v320.toNat
def k0_dev11 (d0 : Dev nD) : Nat :=
  let c0_i32_231 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_230 : BitVec 32 := 16#32
  let v328 : BitVec 32 := Scalar.muli v2 c16_i32_230
  let v329 : BitVec 32 := Scalar.addi c0_i32_231 v328
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_194 : BitVec 32 := 3#32
  let v287 : BitVec 32 := Scalar.addi v5 c3_i32_194
  let c4_i32_195 : BitVec 32 := 4#32
  let c0_i32_196 : BitVec 32 := 0#32
  let v288 : BitVec 1 := Scalar.cmpi .eq c4_i32_195 c0_i32_196
  let c1_i32_197 : BitVec 32 := 1#32
  let v289 : BitVec 32 := Scalar.select v288 c1_i32_197 c4_i32_195
  let v290 : BitVec 32 := Scalar.remsi v287 v289
  let c0_i32_199 : BitVec 32 := 0#32
  let v292 : BitVec 1 := Scalar.cmpi .slt v290 c0_i32_199
  let c0_i32_200 : BitVec 32 := 0#32
  let v293 : BitVec 1 := Scalar.cmpi .slt v289 c0_i32_200
  let v294 : BitVec 1 := Scalar.xori v292 v293
  let c0_i32_198 : BitVec 32 := 0#32
  let v291 : BitVec 1 := Scalar.cmpi .ne v290 c0_i32_198
  let v295 : BitVec 1 := Scalar.andi v294 v291
  let v296 : BitVec 32 := Scalar.addi v290 v289
  let v297 : BitVec 32 := Scalar.select v295 v296 v290
  let c4_i32_232 : BitVec 32 := 4#32
  let v330 : BitVec 32 := Scalar.muli v297 c4_i32_232
  let v331 : BitVec 32 := Scalar.addi v329 v330
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_233 : BitVec 32 := 1#32
  let v332 : BitVec 32 := Scalar.muli v8 c1_i32_233
  let v333 : BitVec 32 := Scalar.addi v331 v332
  v333.toNat
def k0_dev12 (d0 : Dev nD) : Nat :=
  let c0_i32_294 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_293 : BitVec 32 := 16#32
  let v401 : BitVec 32 := Scalar.muli v2 c16_i32_293
  let v402 : BitVec 32 := Scalar.addi c0_i32_294 v401
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_261 : BitVec 32 := 1#32
  let v356 : BitVec 32 := Scalar.addi v5 c1_i32_261
  let c4_i32_262 : BitVec 32 := 4#32
  let c0_i32_263 : BitVec 32 := 0#32
  let v357 : BitVec 1 := Scalar.cmpi .eq c4_i32_262 c0_i32_263
  let c1_i32_264 : BitVec 32 := 1#32
  let v358 : BitVec 32 := Scalar.select v357 c1_i32_264 c4_i32_262
  let v359 : BitVec 32 := Scalar.remsi v356 v358
  let c0_i32_266 : BitVec 32 := 0#32
  let v361 : BitVec 1 := Scalar.cmpi .slt v359 c0_i32_266
  let c0_i32_267 : BitVec 32 := 0#32
  let v362 : BitVec 1 := Scalar.cmpi .slt v358 c0_i32_267
  let v363 : BitVec 1 := Scalar.xori v361 v362
  let c0_i32_265 : BitVec 32 := 0#32
  let v360 : BitVec 1 := Scalar.cmpi .ne v359 c0_i32_265
  let v364 : BitVec 1 := Scalar.andi v363 v360
  let v365 : BitVec 32 := Scalar.addi v359 v358
  let v366 : BitVec 32 := Scalar.select v364 v365 v359
  let c4_i32_295 : BitVec 32 := 4#32
  let v403 : BitVec 32 := Scalar.muli v366 c4_i32_295
  let v404 : BitVec 32 := Scalar.addi v402 v403
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_296 : BitVec 32 := 1#32
  let v405 : BitVec 32 := Scalar.muli v8 c1_i32_296
  let v406 : BitVec 32 := Scalar.addi v404 v405
  v406.toNat
def k0_dev13 (d0 : Dev nD) : Nat :=
  let c0_i32_305 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_304 : BitVec 32 := 16#32
  let v414 : BitVec 32 := Scalar.muli v2 c16_i32_304
  let v415 : BitVec 32 := Scalar.addi c0_i32_305 v414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_270 : BitVec 32 := 2#32
  let v371 : BitVec 32 := Scalar.addi v5 c2_i32_270
  let c4_i32_271 : BitVec 32 := 4#32
  let c0_i32_272 : BitVec 32 := 0#32
  let v372 : BitVec 1 := Scalar.cmpi .eq c4_i32_271 c0_i32_272
  let c1_i32_273 : BitVec 32 := 1#32
  let v373 : BitVec 32 := Scalar.select v372 c1_i32_273 c4_i32_271
  let v374 : BitVec 32 := Scalar.remsi v371 v373
  let c0_i32_275 : BitVec 32 := 0#32
  let v376 : BitVec 1 := Scalar.cmpi .slt v374 c0_i32_275
  let c0_i32_276 : BitVec 32 := 0#32
  let v377 : BitVec 1 := Scalar.cmpi .slt v373 c0_i32_276
  let v378 : BitVec 1 := Scalar.xori v376 v377
  let c0_i32_274 : BitVec 32 := 0#32
  let v375 : BitVec 1 := Scalar.cmpi .ne v374 c0_i32_274
  let v379 : BitVec 1 := Scalar.andi v378 v375
  let v380 : BitVec 32 := Scalar.addi v374 v373
  let v381 : BitVec 32 := Scalar.select v379 v380 v374
  let c4_i32_306 : BitVec 32 := 4#32
  let v416 : BitVec 32 := Scalar.muli v381 c4_i32_306
  let v417 : BitVec 32 := Scalar.addi v415 v416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_307 : BitVec 32 := 1#32
  let v418 : BitVec 32 := Scalar.muli v8 c1_i32_307
  let v419 : BitVec 32 := Scalar.addi v417 v418
  v419.toNat
def k0_dev14 (d0 : Dev nD) : Nat :=
  let c0_i32_316 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_315 : BitVec 32 := 16#32
  let v427 : BitVec 32 := Scalar.muli v2 c16_i32_315
  let v428 : BitVec 32 := Scalar.addi c0_i32_316 v427
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_280 : BitVec 32 := 3#32
  let v386 : BitVec 32 := Scalar.addi v5 c3_i32_280
  let c4_i32_281 : BitVec 32 := 4#32
  let c0_i32_282 : BitVec 32 := 0#32
  let v387 : BitVec 1 := Scalar.cmpi .eq c4_i32_281 c0_i32_282
  let c1_i32_283 : BitVec 32 := 1#32
  let v388 : BitVec 32 := Scalar.select v387 c1_i32_283 c4_i32_281
  let v389 : BitVec 32 := Scalar.remsi v386 v388
  let c0_i32_285 : BitVec 32 := 0#32
  let v391 : BitVec 1 := Scalar.cmpi .slt v389 c0_i32_285
  let c0_i32_286 : BitVec 32 := 0#32
  let v392 : BitVec 1 := Scalar.cmpi .slt v388 c0_i32_286
  let v393 : BitVec 1 := Scalar.xori v391 v392
  let c0_i32_284 : BitVec 32 := 0#32
  let v390 : BitVec 1 := Scalar.cmpi .ne v389 c0_i32_284
  let v394 : BitVec 1 := Scalar.andi v393 v390
  let v395 : BitVec 32 := Scalar.addi v389 v388
  let v396 : BitVec 32 := Scalar.select v394 v395 v389
  let c4_i32_317 : BitVec 32 := 4#32
  let v429 : BitVec 32 := Scalar.muli v396 c4_i32_317
  let v430 : BitVec 32 := Scalar.addi v428 v429
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_318 : BitVec 32 := 1#32
  let v431 : BitVec 32 := Scalar.muli v8 c1_i32_318
  let v432 : BitVec 32 := Scalar.addi v430 v431
  v432.toNat
def k0_dev15 (d0 : Dev nD) : Nat :=
  let c0_i32_379 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_378 : BitVec 32 := 16#32
  let v500 : BitVec 32 := Scalar.muli v2 c16_i32_378
  let v501 : BitVec 32 := Scalar.addi c0_i32_379 v500
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_346 : BitVec 32 := 1#32
  let v455 : BitVec 32 := Scalar.addi v5 c1_i32_346
  let c4_i32_347 : BitVec 32 := 4#32
  let c0_i32_348 : BitVec 32 := 0#32
  let v456 : BitVec 1 := Scalar.cmpi .eq c4_i32_347 c0_i32_348
  let c1_i32_349 : BitVec 32 := 1#32
  let v457 : BitVec 32 := Scalar.select v456 c1_i32_349 c4_i32_347
  let v458 : BitVec 32 := Scalar.remsi v455 v457
  let c0_i32_351 : BitVec 32 := 0#32
  let v460 : BitVec 1 := Scalar.cmpi .slt v458 c0_i32_351
  let c0_i32_352 : BitVec 32 := 0#32
  let v461 : BitVec 1 := Scalar.cmpi .slt v457 c0_i32_352
  let v462 : BitVec 1 := Scalar.xori v460 v461
  let c0_i32_350 : BitVec 32 := 0#32
  let v459 : BitVec 1 := Scalar.cmpi .ne v458 c0_i32_350
  let v463 : BitVec 1 := Scalar.andi v462 v459
  let v464 : BitVec 32 := Scalar.addi v458 v457
  let v465 : BitVec 32 := Scalar.select v463 v464 v458
  let c4_i32_380 : BitVec 32 := 4#32
  let v502 : BitVec 32 := Scalar.muli v465 c4_i32_380
  let v503 : BitVec 32 := Scalar.addi v501 v502
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_381 : BitVec 32 := 1#32
  let v504 : BitVec 32 := Scalar.muli v8 c1_i32_381
  let v505 : BitVec 32 := Scalar.addi v503 v504
  v505.toNat
def k0_dev16 (d0 : Dev nD) : Nat :=
  let c0_i32_389 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_388 : BitVec 32 := 16#32
  let v513 : BitVec 32 := Scalar.muli v2 c16_i32_388
  let v514 : BitVec 32 := Scalar.addi c0_i32_389 v513
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c2_i32_355 : BitVec 32 := 2#32
  let v470 : BitVec 32 := Scalar.addi v5 c2_i32_355
  let c4_i32_356 : BitVec 32 := 4#32
  let c0_i32_357 : BitVec 32 := 0#32
  let v471 : BitVec 1 := Scalar.cmpi .eq c4_i32_356 c0_i32_357
  let c1_i32_358 : BitVec 32 := 1#32
  let v472 : BitVec 32 := Scalar.select v471 c1_i32_358 c4_i32_356
  let v473 : BitVec 32 := Scalar.remsi v470 v472
  let c0_i32_360 : BitVec 32 := 0#32
  let v475 : BitVec 1 := Scalar.cmpi .slt v473 c0_i32_360
  let c0_i32_361 : BitVec 32 := 0#32
  let v476 : BitVec 1 := Scalar.cmpi .slt v472 c0_i32_361
  let v477 : BitVec 1 := Scalar.xori v475 v476
  let c0_i32_359 : BitVec 32 := 0#32
  let v474 : BitVec 1 := Scalar.cmpi .ne v473 c0_i32_359
  let v478 : BitVec 1 := Scalar.andi v477 v474
  let v479 : BitVec 32 := Scalar.addi v473 v472
  let v480 : BitVec 32 := Scalar.select v478 v479 v473
  let c4_i32_390 : BitVec 32 := 4#32
  let v515 : BitVec 32 := Scalar.muli v480 c4_i32_390
  let v516 : BitVec 32 := Scalar.addi v514 v515
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_391 : BitVec 32 := 1#32
  let v517 : BitVec 32 := Scalar.muli v8 c1_i32_391
  let v518 : BitVec 32 := Scalar.addi v516 v517
  v518.toNat
def k0_dev17 (d0 : Dev nD) : Nat :=
  let c0_i32_399 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_398 : BitVec 32 := 16#32
  let v526 : BitVec 32 := Scalar.muli v2 c16_i32_398
  let v527 : BitVec 32 := Scalar.addi c0_i32_399 v526
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c3_i32_365 : BitVec 32 := 3#32
  let v485 : BitVec 32 := Scalar.addi v5 c3_i32_365
  let c4_i32_366 : BitVec 32 := 4#32
  let c0_i32_367 : BitVec 32 := 0#32
  let v486 : BitVec 1 := Scalar.cmpi .eq c4_i32_366 c0_i32_367
  let c1_i32_368 : BitVec 32 := 1#32
  let v487 : BitVec 32 := Scalar.select v486 c1_i32_368 c4_i32_366
  let v488 : BitVec 32 := Scalar.remsi v485 v487
  let c0_i32_370 : BitVec 32 := 0#32
  let v490 : BitVec 1 := Scalar.cmpi .slt v488 c0_i32_370
  let c0_i32_371 : BitVec 32 := 0#32
  let v491 : BitVec 1 := Scalar.cmpi .slt v487 c0_i32_371
  let v492 : BitVec 1 := Scalar.xori v490 v491
  let c0_i32_369 : BitVec 32 := 0#32
  let v489 : BitVec 1 := Scalar.cmpi .ne v488 c0_i32_369
  let v493 : BitVec 1 := Scalar.andi v492 v489
  let v494 : BitVec 32 := Scalar.addi v488 v487
  let v495 : BitVec 32 := Scalar.select v493 v494 v488
  let c4_i32_400 : BitVec 32 := 4#32
  let v528 : BitVec 32 := Scalar.muli v495 c4_i32_400
  let v529 : BitVec 32 := Scalar.addi v527 v528
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_401 : BitVec 32 := 1#32
  let v530 : BitVec 32 := Scalar.muli v8 c1_i32_401
  let v531 : BitVec 32 := Scalar.addi v529 v530
  v531.toNat
def k0_off2 (d0 : Dev nD) (c0_i32_440 : BitVec 32) : Fin 2 → Nat :=
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1024_i32_438 : BitVec 32 := 1024#32
  let v572 : BitVec 32 := Scalar.muli v5 c1024_i32_438
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32_439 : BitVec 32 := 128#32
  let v573 : BitVec 32 := Scalar.muli v11 c128_i32_439
  let v574 : BitVec 32 := Scalar.addi v572 v573
  let v575 : BitVec 32 := Scalar.addi v574 c0_i32_440
  let v576 : Index := Scalar.indexCast v575
  let c0 : Index := 0#32
  ![v576.toNat, 0]
def k0_off3 (d0 : Dev nD) (c0_i32_456 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c128_i32_455 : BitVec 32 := 128#32
  let v602 : BitVec 32 := Scalar.muli v11 c128_i32_455
  let v603 : BitVec 32 := Scalar.addi v602 c0_i32_456
  let v604 : Index := Scalar.indexCast v603
  let c0_457 : Index := 0#32
  ![v604.toNat, 0]
def k0_off4 (d0 : Dev nD) (c0_i32_458 : BitVec 32) (c0_i32_476 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v606 : BitVec 32 := Scalar.subi v11 c0_i32_458
  let c8_i32_459 : BitVec 32 := 8#32
  let c0_i32_460 : BitVec 32 := 0#32
  let v607 : BitVec 1 := Scalar.cmpi .eq c8_i32_459 c0_i32_460
  let c1_i32_461 : BitVec 32 := 1#32
  let v608 : BitVec 32 := Scalar.select v607 c1_i32_461 c8_i32_459
  let v609 : BitVec 32 := Scalar.remsi v606 v608
  let c0_i32_463 : BitVec 32 := 0#32
  let v611 : BitVec 1 := Scalar.cmpi .slt v609 c0_i32_463
  let c0_i32_464 : BitVec 32 := 0#32
  let v612 : BitVec 1 := Scalar.cmpi .slt v608 c0_i32_464
  let v613 : BitVec 1 := Scalar.xori v611 v612
  let c0_i32_462 : BitVec 32 := 0#32
  let v610 : BitVec 1 := Scalar.cmpi .ne v609 c0_i32_462
  let v614 : BitVec 1 := Scalar.andi v613 v610
  let v615 : BitVec 32 := Scalar.addi v609 v608
  let v616 : BitVec 32 := Scalar.select v614 v615 v609
  let c128_i32_475 : BitVec 32 := 128#32
  let v631 : BitVec 32 := Scalar.muli v616 c128_i32_475
  let v632 : BitVec 32 := Scalar.addi v631 c0_i32_476
  let c0_i32_510 : BitVec 32 := 0#32
  ![v632.toNat, 0]
def k0_dev18 (d0 : Dev nD) : Nat :=
  let c0_i32_507 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_506 : BitVec 32 := 16#32
  let v668 : BitVec 32 := Scalar.muli v39 c16_i32_506
  let v669 : BitVec 32 := Scalar.addi c0_i32_507 v668
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_508 : BitVec 32 := 4#32
  let v670 : BitVec 32 := Scalar.muli v5 c4_i32_508
  let v671 : BitVec 32 := Scalar.addi v669 v670
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_509 : BitVec 32 := 1#32
  let v672 : BitVec 32 := Scalar.muli v52 c1_i32_509
  let v673 : BitVec 32 := Scalar.addi v671 v672
  v673.toNat
def k0_off5 (d0 : Dev nD) (c0_i32_481 : BitVec 32) (c0_i32_499 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let v637 : BitVec 32 := Scalar.addi v11 c0_i32_481
  let c8_i32_482 : BitVec 32 := 8#32
  let c0_i32_483 : BitVec 32 := 0#32
  let v638 : BitVec 1 := Scalar.cmpi .eq c8_i32_482 c0_i32_483
  let c1_i32_484 : BitVec 32 := 1#32
  let v639 : BitVec 32 := Scalar.select v638 c1_i32_484 c8_i32_482
  let v640 : BitVec 32 := Scalar.remsi v637 v639
  let c0_i32_486 : BitVec 32 := 0#32
  let v642 : BitVec 1 := Scalar.cmpi .slt v640 c0_i32_486
  let c0_i32_487 : BitVec 32 := 0#32
  let v643 : BitVec 1 := Scalar.cmpi .slt v639 c0_i32_487
  let v644 : BitVec 1 := Scalar.xori v642 v643
  let c0_i32_485 : BitVec 32 := 0#32
  let v641 : BitVec 1 := Scalar.cmpi .ne v640 c0_i32_485
  let v645 : BitVec 1 := Scalar.andi v644 v641
  let v646 : BitVec 32 := Scalar.addi v640 v639
  let v647 : BitVec 32 := Scalar.select v645 v646 v640
  let c128_i32_498 : BitVec 32 := 128#32
  let v662 : BitVec 32 := Scalar.muli v647 c128_i32_498
  let v663 : BitVec 32 := Scalar.addi v662 c0_i32_499
  let c0_i32_518 : BitVec 32 := 0#32
  ![v663.toNat, 0]
def k0_dev19 (d0 : Dev nD) : Nat :=
  let c0_i32_515 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_514 : BitVec 32 := 16#32
  let v680 : BitVec 32 := Scalar.muli v80 c16_i32_514
  let v681 : BitVec 32 := Scalar.addi c0_i32_515 v680
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_516 : BitVec 32 := 4#32
  let v682 : BitVec 32 := Scalar.muli v5 c4_i32_516
  let v683 : BitVec 32 := Scalar.addi v681 v682
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_517 : BitVec 32 := 1#32
  let v684 : BitVec 32 := Scalar.muli v93 c1_i32_517
  let v685 : BitVec 32 := Scalar.addi v683 v684
  v685.toNat
def k0_off6 (d0 : Dev nD) (c0_i32_466 : BitVec 32) (c0_i32_480 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_465 : BitVec 32 := 1#32
  let v617 : BitVec 32 := Scalar.subi v11 c1_i32_465
  let v618 : BitVec 32 := Scalar.subi v617 c0_i32_466
  let c8_i32_467 : BitVec 32 := 8#32
  let c0_i32_468 : BitVec 32 := 0#32
  let v619 : BitVec 1 := Scalar.cmpi .eq c8_i32_467 c0_i32_468
  let c1_i32_469 : BitVec 32 := 1#32
  let v620 : BitVec 32 := Scalar.select v619 c1_i32_469 c8_i32_467
  let v621 : BitVec 32 := Scalar.remsi v618 v620
  let c0_i32_471 : BitVec 32 := 0#32
  let v623 : BitVec 1 := Scalar.cmpi .slt v621 c0_i32_471
  let c0_i32_472 : BitVec 32 := 0#32
  let v624 : BitVec 1 := Scalar.cmpi .slt v620 c0_i32_472
  let v625 : BitVec 1 := Scalar.xori v623 v624
  let c0_i32_470 : BitVec 32 := 0#32
  let v622 : BitVec 1 := Scalar.cmpi .ne v621 c0_i32_470
  let v626 : BitVec 1 := Scalar.andi v625 v622
  let v627 : BitVec 32 := Scalar.addi v621 v620
  let v628 : BitVec 32 := Scalar.select v626 v627 v621
  let c128_i32_479 : BitVec 32 := 128#32
  let v635 : BitVec 32 := Scalar.muli v628 c128_i32_479
  let v636 : BitVec 32 := Scalar.addi v635 c0_i32_480
  let c0_i32_526 : BitVec 32 := 0#32
  ![v636.toNat, 0]
def k0_off7 (d0 : Dev nD) (c0_i32_489 : BitVec 32) (c0_i32_503 : BitVec 32) : Fin 2 → Nat :=
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_488 : BitVec 32 := 1#32
  let v648 : BitVec 32 := Scalar.addi v11 c1_i32_488
  let v649 : BitVec 32 := Scalar.addi v648 c0_i32_489
  let c8_i32_490 : BitVec 32 := 8#32
  let c0_i32_491 : BitVec 32 := 0#32
  let v650 : BitVec 1 := Scalar.cmpi .eq c8_i32_490 c0_i32_491
  let c1_i32_492 : BitVec 32 := 1#32
  let v651 : BitVec 32 := Scalar.select v650 c1_i32_492 c8_i32_490
  let v652 : BitVec 32 := Scalar.remsi v649 v651
  let c0_i32_494 : BitVec 32 := 0#32
  let v654 : BitVec 1 := Scalar.cmpi .slt v652 c0_i32_494
  let c0_i32_495 : BitVec 32 := 0#32
  let v655 : BitVec 1 := Scalar.cmpi .slt v651 c0_i32_495
  let v656 : BitVec 1 := Scalar.xori v654 v655
  let c0_i32_493 : BitVec 32 := 0#32
  let v653 : BitVec 1 := Scalar.cmpi .ne v652 c0_i32_493
  let v657 : BitVec 1 := Scalar.andi v656 v653
  let v658 : BitVec 32 := Scalar.addi v652 v651
  let v659 : BitVec 32 := Scalar.select v657 v658 v652
  let c128_i32_502 : BitVec 32 := 128#32
  let v666 : BitVec 32 := Scalar.muli v659 c128_i32_502
  let v667 : BitVec 32 := Scalar.addi v666 c0_i32_503
  let c0_i32_534 : BitVec 32 := 0#32
  ![v667.toNat, 0]
def k0_dev20 (d0 : Dev nD) : Nat :=
  let c0_i32_585 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_584 : BitVec 32 := 16#32
  let v774 : BitVec 32 := Scalar.muli v39 c16_i32_584
  let v775 : BitVec 32 := Scalar.addi c0_i32_585 v774
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_586 : BitVec 32 := 4#32
  let v776 : BitVec 32 := Scalar.muli v5 c4_i32_586
  let v777 : BitVec 32 := Scalar.addi v775 v776
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_587 : BitVec 32 := 1#32
  let v778 : BitVec 32 := Scalar.muli v52 c1_i32_587
  let v779 : BitVec 32 := Scalar.addi v777 v778
  v779.toNat
def k0_dev21 (d0 : Dev nD) : Nat :=
  let c0_i32_593 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_592 : BitVec 32 := 16#32
  let v786 : BitVec 32 := Scalar.muli v80 c16_i32_592
  let v787 : BitVec 32 := Scalar.addi c0_i32_593 v786
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_594 : BitVec 32 := 4#32
  let v788 : BitVec 32 := Scalar.muli v5 c4_i32_594
  let v789 : BitVec 32 := Scalar.addi v787 v788
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_595 : BitVec 32 := 1#32
  let v790 : BitVec 32 := Scalar.muli v93 c1_i32_595
  let v791 : BitVec 32 := Scalar.addi v789 v790
  v791.toNat
def k0_dev22 (d0 : Dev nD) : Nat :=
  let c0_i32_704 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_703 : BitVec 32 := 16#32
  let v927 : BitVec 32 := Scalar.muli v39 c16_i32_703
  let v928 : BitVec 32 := Scalar.addi c0_i32_704 v927
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_705 : BitVec 32 := 4#32
  let v929 : BitVec 32 := Scalar.muli v5 c4_i32_705
  let v930 : BitVec 32 := Scalar.addi v928 v929
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_706 : BitVec 32 := 1#32
  let v931 : BitVec 32 := Scalar.muli v52 c1_i32_706
  let v932 : BitVec 32 := Scalar.addi v930 v931
  v932.toNat
def k0_dev23 (d0 : Dev nD) : Nat :=
  let c0_i32_712 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_711 : BitVec 32 := 16#32
  let v939 : BitVec 32 := Scalar.muli v80 c16_i32_711
  let v940 : BitVec 32 := Scalar.addi c0_i32_712 v939
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_713 : BitVec 32 := 4#32
  let v941 : BitVec 32 := Scalar.muli v5 c4_i32_713
  let v942 : BitVec 32 := Scalar.addi v940 v941
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_714 : BitVec 32 := 1#32
  let v943 : BitVec 32 := Scalar.muli v93 c1_i32_714
  let v944 : BitVec 32 := Scalar.addi v942 v943
  v944.toNat
def k0_dev24 (d0 : Dev nD) : Nat :=
  let c0_i32_782 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_781 : BitVec 32 := 16#32
  let v1033 : BitVec 32 := Scalar.muli v39 c16_i32_781
  let v1034 : BitVec 32 := Scalar.addi c0_i32_782 v1033
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_783 : BitVec 32 := 4#32
  let v1035 : BitVec 32 := Scalar.muli v5 c4_i32_783
  let v1036 : BitVec 32 := Scalar.addi v1034 v1035
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_784 : BitVec 32 := 1#32
  let v1037 : BitVec 32 := Scalar.muli v52 c1_i32_784
  let v1038 : BitVec 32 := Scalar.addi v1036 v1037
  v1038.toNat
def k0_dev25 (d0 : Dev nD) : Nat :=
  let c0_i32_790 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_789 : BitVec 32 := 16#32
  let v1045 : BitVec 32 := Scalar.muli v80 c16_i32_789
  let v1046 : BitVec 32 := Scalar.addi c0_i32_790 v1045
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_791 : BitVec 32 := 4#32
  let v1047 : BitVec 32 := Scalar.muli v5 c4_i32_791
  let v1048 : BitVec 32 := Scalar.addi v1046 v1047
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_792 : BitVec 32 := 1#32
  let v1049 : BitVec 32 := Scalar.muli v93 c1_i32_792
  let v1050 : BitVec 32 := Scalar.addi v1048 v1049
  v1050.toNat
def k0_dev26 (d0 : Dev nD) : Nat :=
  let c0_i32_860 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_859 : BitVec 32 := 16#32
  let v1139 : BitVec 32 := Scalar.muli v39 c16_i32_859
  let v1140 : BitVec 32 := Scalar.addi c0_i32_860 v1139
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_861 : BitVec 32 := 4#32
  let v1141 : BitVec 32 := Scalar.muli v5 c4_i32_861
  let v1142 : BitVec 32 := Scalar.addi v1140 v1141
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_862 : BitVec 32 := 1#32
  let v1143 : BitVec 32 := Scalar.muli v52 c1_i32_862
  let v1144 : BitVec 32 := Scalar.addi v1142 v1143
  v1144.toNat
def k0_dev27 (d0 : Dev nD) : Nat :=
  let c0_i32_868 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_867 : BitVec 32 := 16#32
  let v1151 : BitVec 32 := Scalar.muli v80 c16_i32_867
  let v1152 : BitVec 32 := Scalar.addi c0_i32_868 v1151
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_869 : BitVec 32 := 4#32
  let v1153 : BitVec 32 := Scalar.muli v5 c4_i32_869
  let v1154 : BitVec 32 := Scalar.addi v1152 v1153
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_870 : BitVec 32 := 1#32
  let v1155 : BitVec 32 := Scalar.muli v93 c1_i32_870
  let v1156 : BitVec 32 := Scalar.addi v1154 v1155
  v1156.toNat
def k0_dev28 (d0 : Dev nD) : Nat :=
  let c0_i32_979 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_978 : BitVec 32 := 16#32
  let v1292 : BitVec 32 := Scalar.muli v39 c16_i32_978
  let v1293 : BitVec 32 := Scalar.addi c0_i32_979 v1292
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_980 : BitVec 32 := 4#32
  let v1294 : BitVec 32 := Scalar.muli v5 c4_i32_980
  let v1295 : BitVec 32 := Scalar.addi v1293 v1294
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_981 : BitVec 32 := 1#32
  let v1296 : BitVec 32 := Scalar.muli v52 c1_i32_981
  let v1297 : BitVec 32 := Scalar.addi v1295 v1296
  v1297.toNat
def k0_dev29 (d0 : Dev nD) : Nat :=
  let c0_i32_987 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_986 : BitVec 32 := 16#32
  let v1304 : BitVec 32 := Scalar.muli v80 c16_i32_986
  let v1305 : BitVec 32 := Scalar.addi c0_i32_987 v1304
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_988 : BitVec 32 := 4#32
  let v1306 : BitVec 32 := Scalar.muli v5 c4_i32_988
  let v1307 : BitVec 32 := Scalar.addi v1305 v1306
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_989 : BitVec 32 := 1#32
  let v1308 : BitVec 32 := Scalar.muli v93 c1_i32_989
  let v1309 : BitVec 32 := Scalar.addi v1307 v1308
  v1309.toNat
def k0_dev30 (d0 : Dev nD) : Nat :=
  let c0_i32_1034 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1033 : BitVec 32 := 16#32
  let v1367 : BitVec 32 := Scalar.muli v80 c16_i32_1033
  let v1368 : BitVec 32 := Scalar.addi c0_i32_1034 v1367
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1035 : BitVec 32 := 4#32
  let v1369 : BitVec 32 := Scalar.muli v5 c4_i32_1035
  let v1370 : BitVec 32 := Scalar.addi v1368 v1369
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1036 : BitVec 32 := 1#32
  let v1371 : BitVec 32 := Scalar.muli v93 c1_i32_1036
  let v1372 : BitVec 32 := Scalar.addi v1370 v1371
  v1372.toNat
def k0_dev31 (d0 : Dev nD) : Nat :=
  let c0_i32_1104 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1103 : BitVec 32 := 16#32
  let v1461 : BitVec 32 := Scalar.muli v39 c16_i32_1103
  let v1462 : BitVec 32 := Scalar.addi c0_i32_1104 v1461
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1105 : BitVec 32 := 4#32
  let v1463 : BitVec 32 := Scalar.muli v5 c4_i32_1105
  let v1464 : BitVec 32 := Scalar.addi v1462 v1463
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1106 : BitVec 32 := 1#32
  let v1465 : BitVec 32 := Scalar.muli v52 c1_i32_1106
  let v1466 : BitVec 32 := Scalar.addi v1464 v1465
  v1466.toNat
def k0_dev32 (d0 : Dev nD) : Nat :=
  let c0_i32_1112 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1111 : BitVec 32 := 16#32
  let v1473 : BitVec 32 := Scalar.muli v80 c16_i32_1111
  let v1474 : BitVec 32 := Scalar.addi c0_i32_1112 v1473
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1113 : BitVec 32 := 4#32
  let v1475 : BitVec 32 := Scalar.muli v5 c4_i32_1113
  let v1476 : BitVec 32 := Scalar.addi v1474 v1475
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1114 : BitVec 32 := 1#32
  let v1477 : BitVec 32 := Scalar.muli v93 c1_i32_1114
  let v1478 : BitVec 32 := Scalar.addi v1476 v1477
  v1478.toNat
def k0_dev33 (d0 : Dev nD) : Nat :=
  let c0_i32_1182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1181 : BitVec 32 := 16#32
  let v1567 : BitVec 32 := Scalar.muli v39 c16_i32_1181
  let v1568 : BitVec 32 := Scalar.addi c0_i32_1182 v1567
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1183 : BitVec 32 := 4#32
  let v1569 : BitVec 32 := Scalar.muli v5 c4_i32_1183
  let v1570 : BitVec 32 := Scalar.addi v1568 v1569
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1184 : BitVec 32 := 1#32
  let v1571 : BitVec 32 := Scalar.muli v52 c1_i32_1184
  let v1572 : BitVec 32 := Scalar.addi v1570 v1571
  v1572.toNat
def k0_dev34 (d0 : Dev nD) : Nat :=
  let c0_i32_1190 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1189 : BitVec 32 := 16#32
  let v1579 : BitVec 32 := Scalar.muli v80 c16_i32_1189
  let v1580 : BitVec 32 := Scalar.addi c0_i32_1190 v1579
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1191 : BitVec 32 := 4#32
  let v1581 : BitVec 32 := Scalar.muli v5 c4_i32_1191
  let v1582 : BitVec 32 := Scalar.addi v1580 v1581
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1192 : BitVec 32 := 1#32
  let v1583 : BitVec 32 := Scalar.muli v93 c1_i32_1192
  let v1584 : BitVec 32 := Scalar.addi v1582 v1583
  v1584.toNat
def k0_dev35 (d0 : Dev nD) : Nat :=
  let c0_i32_1300 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1299 : BitVec 32 := 16#32
  let v1720 : BitVec 32 := Scalar.muli v39 c16_i32_1299
  let v1721 : BitVec 32 := Scalar.addi c0_i32_1300 v1720
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1301 : BitVec 32 := 4#32
  let v1722 : BitVec 32 := Scalar.muli v5 c4_i32_1301
  let v1723 : BitVec 32 := Scalar.addi v1721 v1722
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1302 : BitVec 32 := 1#32
  let v1724 : BitVec 32 := Scalar.muli v52 c1_i32_1302
  let v1725 : BitVec 32 := Scalar.addi v1723 v1724
  v1725.toNat
def k0_dev36 (d0 : Dev nD) : Nat :=
  let c0_i32_1307 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1306 : BitVec 32 := 16#32
  let v1732 : BitVec 32 := Scalar.muli v80 c16_i32_1306
  let v1733 : BitVec 32 := Scalar.addi c0_i32_1307 v1732
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1308 : BitVec 32 := 4#32
  let v1734 : BitVec 32 := Scalar.muli v5 c4_i32_1308
  let v1735 : BitVec 32 := Scalar.addi v1733 v1734
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1309 : BitVec 32 := 1#32
  let v1736 : BitVec 32 := Scalar.muli v93 c1_i32_1309
  let v1737 : BitVec 32 := Scalar.addi v1735 v1736
  v1737.toNat
def k0_dev37 (d0 : Dev nD) : Nat :=
  let c0_i32_1362 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1361 : BitVec 32 := 16#32
  let v1805 : BitVec 32 := Scalar.muli v80 c16_i32_1361
  let v1806 : BitVec 32 := Scalar.addi c0_i32_1362 v1805
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1363 : BitVec 32 := 4#32
  let v1807 : BitVec 32 := Scalar.muli v5 c4_i32_1363
  let v1808 : BitVec 32 := Scalar.addi v1806 v1807
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1364 : BitVec 32 := 1#32
  let v1809 : BitVec 32 := Scalar.muli v93 c1_i32_1364
  let v1810 : BitVec 32 := Scalar.addi v1808 v1809
  v1810.toNat
def k0_dev38 (d0 : Dev nD) : Nat :=
  let c0_i32_1432 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1431 : BitVec 32 := 16#32
  let v1899 : BitVec 32 := Scalar.muli v39 c16_i32_1431
  let v1900 : BitVec 32 := Scalar.addi c0_i32_1432 v1899
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1433 : BitVec 32 := 4#32
  let v1901 : BitVec 32 := Scalar.muli v5 c4_i32_1433
  let v1902 : BitVec 32 := Scalar.addi v1900 v1901
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1434 : BitVec 32 := 1#32
  let v1903 : BitVec 32 := Scalar.muli v52 c1_i32_1434
  let v1904 : BitVec 32 := Scalar.addi v1902 v1903
  v1904.toNat
def k0_dev39 (d0 : Dev nD) : Nat :=
  let c0_i32_1440 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1439 : BitVec 32 := 16#32
  let v1911 : BitVec 32 := Scalar.muli v80 c16_i32_1439
  let v1912 : BitVec 32 := Scalar.addi c0_i32_1440 v1911
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1441 : BitVec 32 := 4#32
  let v1913 : BitVec 32 := Scalar.muli v5 c4_i32_1441
  let v1914 : BitVec 32 := Scalar.addi v1912 v1913
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1442 : BitVec 32 := 1#32
  let v1915 : BitVec 32 := Scalar.muli v93 c1_i32_1442
  let v1916 : BitVec 32 := Scalar.addi v1914 v1915
  v1916.toNat
def k0_dev40 (d0 : Dev nD) : Nat :=
  let c0_i32_1510 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1509 : BitVec 32 := 16#32
  let v2005 : BitVec 32 := Scalar.muli v39 c16_i32_1509
  let v2006 : BitVec 32 := Scalar.addi c0_i32_1510 v2005
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1511 : BitVec 32 := 4#32
  let v2007 : BitVec 32 := Scalar.muli v5 c4_i32_1511
  let v2008 : BitVec 32 := Scalar.addi v2006 v2007
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1512 : BitVec 32 := 1#32
  let v2009 : BitVec 32 := Scalar.muli v52 c1_i32_1512
  let v2010 : BitVec 32 := Scalar.addi v2008 v2009
  v2010.toNat
def k0_dev41 (d0 : Dev nD) : Nat :=
  let c0_i32_1517 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1516 : BitVec 32 := 16#32
  let v2017 : BitVec 32 := Scalar.muli v80 c16_i32_1516
  let v2018 : BitVec 32 := Scalar.addi c0_i32_1517 v2017
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1518 : BitVec 32 := 4#32
  let v2019 : BitVec 32 := Scalar.muli v5 c4_i32_1518
  let v2020 : BitVec 32 := Scalar.addi v2018 v2019
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1519 : BitVec 32 := 1#32
  let v2021 : BitVec 32 := Scalar.muli v93 c1_i32_1519
  let v2022 : BitVec 32 := Scalar.addi v2020 v2021
  v2022.toNat
def k0_dev42 (d0 : Dev nD) : Nat :=
  let c0_i32_1572 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1571 : BitVec 32 := 16#32
  let v2090 : BitVec 32 := Scalar.muli v80 c16_i32_1571
  let v2091 : BitVec 32 := Scalar.addi c0_i32_1572 v2090
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1573 : BitVec 32 := 4#32
  let v2092 : BitVec 32 := Scalar.muli v5 c4_i32_1573
  let v2093 : BitVec 32 := Scalar.addi v2091 v2092
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1574 : BitVec 32 := 1#32
  let v2094 : BitVec 32 := Scalar.muli v93 c1_i32_1574
  let v2095 : BitVec 32 := Scalar.addi v2093 v2094
  v2095.toNat
def k0_dev43 (d0 : Dev nD) : Nat :=
  let c0_i32_1642 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_2 : BitVec 32 := 1#32
  let v12 : BitVec 32 := Scalar.addi v11 c1_i32_2
  let c8_i32 : BitVec 32 := 8#32
  let c0_i32_3 : BitVec 32 := 0#32
  let v13 : BitVec 1 := Scalar.cmpi .eq c8_i32 c0_i32_3
  let c1_i32_4 : BitVec 32 := 1#32
  let v14 : BitVec 32 := Scalar.select v13 c1_i32_4 c8_i32
  let v15 : BitVec 32 := Scalar.remsi v12 v14
  let c0_i32_6 : BitVec 32 := 0#32
  let v17 : BitVec 1 := Scalar.cmpi .slt v15 c0_i32_6
  let c0_i32_7 : BitVec 32 := 0#32
  let v18 : BitVec 1 := Scalar.cmpi .slt v14 c0_i32_7
  let v19 : BitVec 1 := Scalar.xori v17 v18
  let c0_i32_5 : BitVec 32 := 0#32
  let v16 : BitVec 1 := Scalar.cmpi .ne v15 c0_i32_5
  let v20 : BitVec 1 := Scalar.andi v19 v16
  let v21 : BitVec 32 := Scalar.addi v15 v14
  let v22 : BitVec 32 := Scalar.select v20 v21 v15
  let c0_i32_9 : BitVec 32 := 0#32
  let v24 : BitVec 1 := Scalar.cmpi .sgt v22 c0_i32_9
  let v25 : BitVec 32 := Scalar.extui v24
  let c0_i32_10 : BitVec 32 := 0#32
  let v26 : BitVec 1 := Scalar.cmpi .slt v22 c0_i32_10
  let v27 : BitVec 32 := Scalar.extui v26
  let v28 : BitVec 32 := Scalar.subi v25 v27
  let c4_i32_8 : BitVec 32 := 4#32
  let c0_i32_11 : BitVec 32 := 0#32
  let v29 : BitVec 1 := Scalar.cmpi .sgt c4_i32_8 c0_i32_11
  let v30 : BitVec 32 := Scalar.extui v29
  let c0_i32_12 : BitVec 32 := 0#32
  let v31 : BitVec 1 := Scalar.cmpi .slt c4_i32_8 c0_i32_12
  let v32 : BitVec 32 := Scalar.extui v31
  let v33 : BitVec 32 := Scalar.subi v30 v32
  let v34 : BitVec 1 := Scalar.cmpi .ne v28 v33
  let v35 : BitVec 32 := Scalar.remsi v22 c4_i32_8
  let c0_i32_13 : BitVec 32 := 0#32
  let v36 : BitVec 1 := Scalar.cmpi .ne v35 c0_i32_13
  let v37 : BitVec 1 := Scalar.andi v34 v36
  let v23 : BitVec 32 := Scalar.divsi v22 c4_i32_8
  let c1_i32_14 : BitVec 32 := 1#32
  let v38 : BitVec 32 := Scalar.subi v23 c1_i32_14
  let v39 : BitVec 32 := Scalar.select v37 v38 v23
  let c16_i32_1641 : BitVec 32 := 16#32
  let v2184 : BitVec 32 := Scalar.muli v39 c16_i32_1641
  let v2185 : BitVec 32 := Scalar.addi c0_i32_1642 v2184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1643 : BitVec 32 := 4#32
  let v2186 : BitVec 32 := Scalar.muli v5 c4_i32_1643
  let v2187 : BitVec 32 := Scalar.addi v2185 v2186
  let c0_i32_15 : BitVec 32 := 0#32
  let v40 : BitVec 1 := Scalar.cmpi .eq v39 c0_i32_15
  let c4_i32_16 : BitVec 32 := 4#32
  let c0_i32_17 : BitVec 32 := 0#32
  let v41 : BitVec 1 := Scalar.cmpi .eq c4_i32_16 c0_i32_17
  let c1_i32_18 : BitVec 32 := 1#32
  let v42 : BitVec 32 := Scalar.select v41 c1_i32_18 c4_i32_16
  let v43 : BitVec 32 := Scalar.remsi v22 v42
  let c0_i32_20 : BitVec 32 := 0#32
  let v45 : BitVec 1 := Scalar.cmpi .slt v43 c0_i32_20
  let c0_i32_21 : BitVec 32 := 0#32
  let v46 : BitVec 1 := Scalar.cmpi .slt v42 c0_i32_21
  let v47 : BitVec 1 := Scalar.xori v45 v46
  let c0_i32_19 : BitVec 32 := 0#32
  let v44 : BitVec 1 := Scalar.cmpi .ne v43 c0_i32_19
  let v48 : BitVec 1 := Scalar.andi v47 v44
  let v49 : BitVec 32 := Scalar.addi v43 v42
  let v50 : BitVec 32 := Scalar.select v48 v49 v43
  let c7_i32_22 : BitVec 32 := 7#32
  let v51 : BitVec 32 := Scalar.subi c7_i32_22 v22
  let v52 : BitVec 32 := Scalar.select v40 v50 v51
  let c1_i32_1644 : BitVec 32 := 1#32
  let v2188 : BitVec 32 := Scalar.muli v52 c1_i32_1644
  let v2189 : BitVec 32 := Scalar.addi v2187 v2188
  v2189.toNat
def k0_dev44 (d0 : Dev nD) : Nat :=
  let c0_i32_1649 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1648 : BitVec 32 := 16#32
  let v2196 : BitVec 32 := Scalar.muli v80 c16_i32_1648
  let v2197 : BitVec 32 := Scalar.addi c0_i32_1649 v2196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1650 : BitVec 32 := 4#32
  let v2198 : BitVec 32 := Scalar.muli v5 c4_i32_1650
  let v2199 : BitVec 32 := Scalar.addi v2197 v2198
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1651 : BitVec 32 := 1#32
  let v2200 : BitVec 32 := Scalar.muli v93 c1_i32_1651
  let v2201 : BitVec 32 := Scalar.addi v2199 v2200
  v2201.toNat
def k0_dev45 (d0 : Dev nD) : Nat :=
  let c0_i32_1703 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c0_i32 : BitVec 32 := 0#32
  let v9 : BitVec 1 := Scalar.cmpi .eq v2 c0_i32
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c7_i32 : BitVec 32 := 7#32
  let v10 : BitVec 32 := Scalar.subi c7_i32 v8
  let v11 : BitVec 32 := Scalar.select v9 v8 v10
  let c1_i32_23 : BitVec 32 := 1#32
  let v53 : BitVec 32 := Scalar.subi v11 c1_i32_23
  let c8_i32_24 : BitVec 32 := 8#32
  let c0_i32_25 : BitVec 32 := 0#32
  let v54 : BitVec 1 := Scalar.cmpi .eq c8_i32_24 c0_i32_25
  let c1_i32_26 : BitVec 32 := 1#32
  let v55 : BitVec 32 := Scalar.select v54 c1_i32_26 c8_i32_24
  let v56 : BitVec 32 := Scalar.remsi v53 v55
  let c0_i32_28 : BitVec 32 := 0#32
  let v58 : BitVec 1 := Scalar.cmpi .slt v56 c0_i32_28
  let c0_i32_29 : BitVec 32 := 0#32
  let v59 : BitVec 1 := Scalar.cmpi .slt v55 c0_i32_29
  let v60 : BitVec 1 := Scalar.xori v58 v59
  let c0_i32_27 : BitVec 32 := 0#32
  let v57 : BitVec 1 := Scalar.cmpi .ne v56 c0_i32_27
  let v61 : BitVec 1 := Scalar.andi v60 v57
  let v62 : BitVec 32 := Scalar.addi v56 v55
  let v63 : BitVec 32 := Scalar.select v61 v62 v56
  let c0_i32_31 : BitVec 32 := 0#32
  let v65 : BitVec 1 := Scalar.cmpi .sgt v63 c0_i32_31
  let v66 : BitVec 32 := Scalar.extui v65
  let c0_i32_32 : BitVec 32 := 0#32
  let v67 : BitVec 1 := Scalar.cmpi .slt v63 c0_i32_32
  let v68 : BitVec 32 := Scalar.extui v67
  let v69 : BitVec 32 := Scalar.subi v66 v68
  let c4_i32_30 : BitVec 32 := 4#32
  let c0_i32_33 : BitVec 32 := 0#32
  let v70 : BitVec 1 := Scalar.cmpi .sgt c4_i32_30 c0_i32_33
  let v71 : BitVec 32 := Scalar.extui v70
  let c0_i32_34 : BitVec 32 := 0#32
  let v72 : BitVec 1 := Scalar.cmpi .slt c4_i32_30 c0_i32_34
  let v73 : BitVec 32 := Scalar.extui v72
  let v74 : BitVec 32 := Scalar.subi v71 v73
  let v75 : BitVec 1 := Scalar.cmpi .ne v69 v74
  let v76 : BitVec 32 := Scalar.remsi v63 c4_i32_30
  let c0_i32_35 : BitVec 32 := 0#32
  let v77 : BitVec 1 := Scalar.cmpi .ne v76 c0_i32_35
  let v78 : BitVec 1 := Scalar.andi v75 v77
  let v64 : BitVec 32 := Scalar.divsi v63 c4_i32_30
  let c1_i32_36 : BitVec 32 := 1#32
  let v79 : BitVec 32 := Scalar.subi v64 c1_i32_36
  let v80 : BitVec 32 := Scalar.select v78 v79 v64
  let c16_i32_1702 : BitVec 32 := 16#32
  let v2269 : BitVec 32 := Scalar.muli v80 c16_i32_1702
  let v2270 : BitVec 32 := Scalar.addi c0_i32_1703 v2269
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_1704 : BitVec 32 := 4#32
  let v2271 : BitVec 32 := Scalar.muli v5 c4_i32_1704
  let v2272 : BitVec 32 := Scalar.addi v2270 v2271
  let c0_i32_37 : BitVec 32 := 0#32
  let v81 : BitVec 1 := Scalar.cmpi .eq v80 c0_i32_37
  let c4_i32_38 : BitVec 32 := 4#32
  let c0_i32_39 : BitVec 32 := 0#32
  let v82 : BitVec 1 := Scalar.cmpi .eq c4_i32_38 c0_i32_39
  let c1_i32_40 : BitVec 32 := 1#32
  let v83 : BitVec 32 := Scalar.select v82 c1_i32_40 c4_i32_38
  let v84 : BitVec 32 := Scalar.remsi v63 v83
  let c0_i32_42 : BitVec 32 := 0#32
  let v86 : BitVec 1 := Scalar.cmpi .slt v84 c0_i32_42
  let c0_i32_43 : BitVec 32 := 0#32
  let v87 : BitVec 1 := Scalar.cmpi .slt v83 c0_i32_43
  let v88 : BitVec 1 := Scalar.xori v86 v87
  let c0_i32_41 : BitVec 32 := 0#32
  let v85 : BitVec 1 := Scalar.cmpi .ne v84 c0_i32_41
  let v89 : BitVec 1 := Scalar.andi v88 v85
  let v90 : BitVec 32 := Scalar.addi v84 v83
  let v91 : BitVec 32 := Scalar.select v89 v90 v84
  let c7_i32_44 : BitVec 32 := 7#32
  let v92 : BitVec 32 := Scalar.subi c7_i32_44 v63
  let v93 : BitVec 32 := Scalar.select v81 v91 v92
  let c1_i32_1705 : BitVec 32 := 1#32
  let v2273 : BitVec 32 := Scalar.muli v93 c1_i32_1705
  let v2274 : BitVec 32 := Scalar.addi v2272 v2273
  v2274.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4x4096x1024 : Shape := ⟨3, ![4, 4096, 1024]⟩
abbrev S1024 : Shape := ⟨1, ![1024]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S1024, .f32⟩
  | .hbm, ⟨2, _⟩ => ⟨S_, .f32⟩
  | .hbm, ⟨3, _⟩ => ⟨S4096x1024, .f32⟩
  | .hbm, ⟨4, _⟩ => ⟨S4096x1024, .f32⟩
  | .hbm, ⟨5, _⟩ => ⟨S_, .f32⟩
  | .hbm, ⟨6, _⟩ => ⟨S4096, .f32⟩
  | .hbm, ⟨7, _⟩ => ⟨S4096x1, .f32⟩
  | .hbm, ⟨8, _⟩ => ⟨S_, .f32⟩
  | .hbm, ⟨9, _⟩ => ⟨S4096x1, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S4096x1, .f32⟩
  | .hbm, ⟨15, _⟩ => ⟨S4096x1024, .f32⟩
  | .hbm, ⟨16, _⟩ => ⟨S4096x1024, .f32⟩
  | .hbm, ⟨17, _⟩ => ⟨S1x1024, .f32⟩
  | .hbm, ⟨18, _⟩ => ⟨S4096x1024, .f32⟩
  | .hbm, ⟨19, _⟩ => ⟨S4096x1024, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_v4 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== Proof.Steps.lean ====
/- The kernel's body as a LIST OF STEPS: what each step of the protocol does to memory and to the
   semaphores, the order the body takes them in, and the theorem that the printed body is that list. -/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Regions
public import Mathlib.Tactic.DeriveFintype

@[expose] public section

noncomputable section

namespace Cert.KernelIdeal.Run

open Idealize.ShloMosaic Idealize.ShloMosaic.TcCoe
open Idealize.SL Idealize.SL.Sem
open Cert.KernelIdeal.Gen

variable {F : FTy → Type} [FloatOps F]

/-- A remote copy a device issues: towards the device `o + 1` further along y, of window `w` of the rows that
    device reduces; towards the next device of the ring, or the previous one, at step `s` of window `w`. -/
inductive Xf
  | y (w : Fin 4) (o : Fin 3)
  | r (w : Fin 4) (s : Fin 3)
  | l (w : Fin 4) (s : Fin 4)
  deriving DecidableEq, Fintype

/-- A step of the body: the `i`-th signal of a peer's barrier, the wait on the own barrier, the issue of a copy,
    the wait for a copy to have left, the wait for the copy of the same kind to have arrived, and the computation
    of one window. -/
inductive Step
  | sig (i : Fin 5)
  | bar
  | send (x : Xf)
  | sent (x : Xf)
  | got (x : Xf)
  | comp (w : Fin 4)
  deriving DecidableEq

/-- The position of a copy's semaphore in the send array and in the receive array of its kind. -/
def Xf.no : Xf → ℕ
  | .y w o => 3 * w.val + o.val
  | .r w s => 3 * w.val + s.val
  | .l w s => 4 * w.val + s.val

theorem no_y (w : Fin 4) (o : Fin 3) : 3 * w.val + o.val + 1 ≤ 12 := by omega
theorem no_l (w s : Fin 4) : 4 * w.val + s.val + 1 ≤ 16 := by omega

/-- The semaphore a copy signals on the device that issues it. -/
def sSem : Xf → DmaSem sig
  | .y w o => ⟨3 + (3 * w.val + o.val), by have := no_y w o; show _ < 83; omega⟩
  | .r w s => ⟨27 + (3 * w.val + s.val), by have := no_y w s; show _ < 83; omega⟩
  | .l w s => ⟨51 + (4 * w.val + s.val), by have := no_l w s; show _ < 83; omega⟩

/-- The semaphore a copy signals on the device it goes to. -/
def rSem : Xf → DmaSem sig
  | .y w o => ⟨15 + (3 * w.val + o.val), by have := no_y w o; show _ < 83; omega⟩
  | .r w s => ⟨39 + (3 * w.val + s.val), by have := no_y w s; show _ < 83; omega⟩
  | .l w s => ⟨67 + (4 * w.val + s.val), by have := no_l w s; show _ < 83; omega⟩

/-- The barrier semaphore. -/
abbrev barS : Sem sig := (SemArray.scalar (sig.barrier 0 rfl) : Sems sig S_).sem

/-- The device the `i`-th signal goes to, as printed. -/
def sigDev (i : Fin 5) (d : Dev nD) : Dev nD :=
  match i with
  | 0 => ⟨k0_dev1 d, k0_dev1_lt d⟩
  | 1 => ⟨k0_dev2 d, k0_dev2_lt d⟩
  | 2 => ⟨k0_dev3 d, k0_dev3_lt d⟩
  | 3 => ⟨k0_dev4 d, k0_dev4_lt d⟩
  | 4 => ⟨k0_dev5 d, k0_dev5_lt d⟩

/-- The device a copy goes to, as printed at the copy. -/
def xDev (x : Xf) (d : Dev nD) : Dev nD :=
  match x with
  | .y 0 0 => ⟨k0_dev6 d, k0_dev6_lt d⟩
  | .y 0 1 => ⟨k0_dev7 d, k0_dev7_lt d⟩
  | .y 0 2 => ⟨k0_dev8 d, k0_dev8_lt d⟩
  | .y 1 0 => ⟨k0_dev9 d, k0_dev9_lt d⟩
  | .y 1 1 => ⟨k0_dev10 d, k0_dev10_lt d⟩
  | .y 1 2 => ⟨k0_dev11 d, k0_dev11_lt d⟩
  | .y 2 0 => ⟨k0_dev12 d, k0_dev12_lt d⟩
  | .y 2 1 => ⟨k0_dev13 d, k0_dev13_lt d⟩
  | .y 2 2 => ⟨k0_dev14 d, k0_dev14_lt d⟩
  | .y 3 0 => ⟨k0_dev15 d, k0_dev15_lt d⟩
  | .y 3 1 => ⟨k0_dev16 d, k0_dev16_lt d⟩
  | .y 3 2 => ⟨k0_dev17 d, k0_dev17_lt d⟩
  | .r 0 0 => ⟨k0_dev18 d, k0_dev18_lt d⟩
  | .l 0 0 => ⟨k0_dev19 d, k0_dev19_lt d⟩
  | .r 0 1 => ⟨k0_dev20 d, k0_dev20_lt d⟩
  | .l 0 1 => ⟨k0_dev21 d, k0_dev21_lt d⟩
  | .r 1 0 => ⟨k0_dev22 d, k0_dev22_lt d⟩
  | .l 1 0 => ⟨k0_dev23 d, k0_dev23_lt d⟩
  | .r 0 2 => ⟨k0_dev24 d, k0_dev24_lt d⟩
  | .l 0 2 => ⟨k0_dev25 d, k0_dev25_lt d⟩
  | .r 1 1 => ⟨k0_dev26 d, k0_dev26_lt d⟩
  | .l 1 1 => ⟨k0_dev27 d, k0_dev27_lt d⟩
  | .r 2 0 => ⟨k0_dev28 d, k0_dev28_lt d⟩
  | .l 2 0 => ⟨k0_dev29 d, k0_dev29_lt d⟩
  | .l 0 3 => ⟨k0_dev30 d, k0_dev30_lt d⟩
  | .r 1 2 => ⟨k0_dev31 d, k0_dev31_lt d⟩
  | .l 1 2 => ⟨k0_dev32 d, k0_dev32_lt d⟩
  | .r 2 1 => ⟨k0_dev33 d, k0_dev33_lt d⟩
  | .l 2 1 => ⟨k0_dev34 d, k0_dev34_lt d⟩
  | .r 3 0 => ⟨k0_dev35 d, k0_dev35_lt d⟩
  | .l 3 0 => ⟨k0_dev36 d, k0_dev36_lt d⟩
  | .l 1 3 => ⟨k0_dev37 d, k0_dev37_lt d⟩
  | .r 2 2 => ⟨k0_dev38 d, k0_dev38_lt d⟩
  | .l 2 2 => ⟨k0_dev39 d, k0_dev39_lt d⟩
  | .r 3 1 => ⟨k0_dev40 d, k0_dev40_lt d⟩
  | .l 3 1 => ⟨k0_dev41 d, k0_dev41_lt d⟩
  | .l 2 3 => ⟨k0_dev42 d, k0_dev42_lt d⟩
  | .r 3 2 => ⟨k0_dev43 d, k0_dev43_lt d⟩
  | .l 3 2 => ⟨k0_dev44 d, k0_dev44_lt d⟩
  | .l 3 3 => ⟨k0_dev45 d, k0_dev45_lt d⟩

/-- A window's first row within its block of rows, as the program's word. -/
abbrev winW (w : Fin 4) : BitVec 32 := BitVec.ofNat 32 (32 * w.val)

variable (a0 : Memref sig .tc .vmem S4096x1024 .f32) (a1 : Memref sig .tc .vmem S1x1024 .f32)
  (a2 : Memref sig .tc .vmem S1024x1024 .f32) (a3 : Memref sig .tc .vmem S4x3x32x1024 .f32)

theorem slot_inb (w : Fin 4) (o : Fin 3) :
    ∀ a, (![w.val, o.val, 0, 0] : Fin 4 → ℕ) a + S1x1x32x1024.size a ≤ S4x3x32x1024.size a := by
  revert w o; decide

/-- The slot of the receive scratch a copy along y arrives in, as the loads address it. -/
abbrev slotRect (w : Fin 4) (o : Fin 3) :=
  Rect.unit (s := S4x3x32x1024) ![w.val, o.val, 0, 0] S1x1x32x1024.size (slot_inb w o)

/-- The same slot as a matrix of 32 rows. -/
abbrev slotM (w : Fin 4) (o : Fin 3) : Memref sig .tc .vmem S32x1024 .f32 :=
  (a3.slice (slotRect w o) (fun _ => rfl)).squeeze S32x1024 squeezes_S1x1x32x1024_S32x1024

/-- The rows of the own partial sum that copy `o` of window `w` along y sends. -/
abbrev partM (d : Dev nD) (w : Fin 4) (o : Fin 3) : Memref sig .tc .vmem S32x1024 .f32 :=
  a0.slice (Rect.unit (s := S4096x1024) (k0_off1 d (BitVec.ofNat 32 (1 + o.val)) (winW w)) S32x1024.size (k0_off1_inb d o w)) (fun _ => rfl)

/-- The rows of the result that step `s` to the next device sends. -/
abbrev outR (d : Dev nD) (w : Fin 4) (s : Fin 3) : Memref sig .tc .vmem S32x1024 .f32 :=
  a2.slice (Rect.unit (s := S1024x1024) (k0_off4 d (BitVec.ofNat 32 s.val) (winW w)) S32x1024.size (k0_off4_inb d s w)) (fun _ => rfl)

/-- The rows of the result that step `s` to the previous device sends. -/
abbrev outL (d : Dev nD) (w : Fin 4) (s : Fin 4) : Memref sig .tc .vmem S32x1024 .f32 :=
  a2.slice (Rect.unit (s := S1024x1024) (k0_off5 d (BitVec.ofNat 32 s.val) (winW w)) S32x1024.size (k0_off5_inb d s w)) (fun _ => rfl)

/-- The rows of the result that step `s` from the previous device fills. -/
abbrev inR (d : Dev nD) (w : Fin 4) (s : Fin 3) : Memref sig .tc .vmem S32x1024 .f32 :=
  a2.slice (Rect.unit (s := S1024x1024) (k0_off6 d (BitVec.ofNat 32 s.val) (winW w)) S32x1024.size (k0_off6_inb d s w)) (fun _ => rfl)

/-- The rows of the result that step `s` from the next device fills. -/
abbrev inL (d : Dev nD) (w : Fin 4) (s : Fin 4) : Memref sig .tc .vmem S32x1024 .f32 :=
  a2.slice (Rect.unit (s := S1024x1024) (k0_off7 d (BitVec.ofNat 32 s.val) (winW w)) S32x1024.size (k0_off7_inb d s w)) (fun _ => rfl)

/-- One window of the computation: the sum of the four partial sums, its root mean square and the scale. -/
abbrev blk (own : Vec F S32x1024 .f32) (y0 y1 y2 : Vec F S1x1x32x1024 .f32) (g : Vec F S1x1024 .f32) : FVec F S32x1024 .f32 :=
  k0_pay9 own y0 y1 y2 g

/-- A program of the kernel. -/
abbrev Pr (F : FTy → Type) : Type 1 := Prog (TpuEff nD τ sig (Elt F) Λ₀ .tc) PUnit

/-- What a step does on device `d`. -/
def den (d : Dev nD) : Step → Pr F
  | .sig i => semSignalWord (sigDev i d) barS 1#32
  | .bar => semWaitWord barS 5#32
  | .send (.y w o) => Prog.lift (.enqueueDma (partM a0 d w o) (.remote (Dev.tc (xDev (.y w o) d)) (slotM a3 w o) (.dma (sSem (.y w o))))
      (.dma (rSem (.y w o))) (View.wordExact_bits rfl) ((View.wordExact_bits rfl).reshape _ _) ⟨⟨rfl, Or.inl rfl⟩, trivial⟩)
  | .send (.r w s) => Prog.lift (.enqueueDma (outR a2 d w s) (.remote (Dev.tc (xDev (.r w s) d)) (outR a2 d w s) (.dma (sSem (.r w s))))
      (.dma (rSem (.r w s))) (View.wordExact_bits rfl) (View.wordExact_bits rfl) ⟨⟨rfl, Or.inl rfl⟩, trivial⟩)
  | .send (.l w s) => Prog.lift (.enqueueDma (outL a2 d w s) (.remote (Dev.tc (xDev (.l w s) d)) (outL a2 d w s) (.dma (sSem (.l w s))))
      (.dma (rSem (.l w s))) (View.wordExact_bits rfl) (View.wordExact_bits rfl) ⟨⟨rfl, Or.inl rfl⟩, trivial⟩)
  | .sent (.y w o) => Prog.lift (.waitDma2 (sSem (.y w o)) (slotM a3 w o) (partM a0 d w o) ((View.wordExact_bits rfl).reshape _ _) (View.wordExact_bits rfl))
  | .sent (.r w s) => Prog.lift (.waitDma2 (sSem (.r w s)) (outR a2 d w s) (outR a2 d w s) (View.wordExact_bits rfl) (View.wordExact_bits rfl))
  | .sent (.l w s) => Prog.lift (.waitDma2 (sSem (.l w s)) (outL a2 d w s) (outL a2 d w s) (View.wordExact_bits rfl) (View.wordExact_bits rfl))
  | .got (.y w o) => Prog.lift (.waitDma2 (rSem (.y w o)) (partM a0 d w o) (slotM a3 w o) (View.wordExact_bits rfl) ((View.wordExact_bits rfl).reshape _ _))
  | .got (.r w s) => Prog.lift (.waitDma2 (rSem (.r w s)) (inR a2 d w s) (inR a2 d w s) (View.wordExact_bits rfl) (View.wordExact_bits rfl))
  | .got (.l w s) => Prog.lift (.waitDma2 (rSem (.l w s)) (inL a2 d w s) (inL a2 d w s) (View.wordExact_bits rfl) (View.wordExact_bits rfl))
  | .comp w => do
      let own : Vec F S32x1024 .f32 ← Prog.lift (.load a0 (Rect.unit (s := S4096x1024) (k0_off2 d (winW w)) S32x1024.size (k0_off2_inb d w)).toLoadRect (View.loadsAt_vmem h_S32x1024))
      let y0 : Vec F S1x1x32x1024 .f32 ← Prog.lift (.load a3 (slotRect w 0).toLoadRect (View.loadsAt_vmem h_S1x1x32x1024))
      let y1 : Vec F S1x1x32x1024 .f32 ← Prog.lift (.load a3 (slotRect w 1).toLoadRect (View.loadsAt_vmem h_S1x1x32x1024))
      let y2 : Vec F S1x1x32x1024 .f32 ← Prog.lift (.load a3 (slotRect w 2).toLoadRect (View.loadsAt_vmem h_S1x1x32x1024))
      let g : Vec F S1x1024 .f32 ← Prog.lift (.load a1 (Rect.unit (s := S1x1024) ![0, 0] S1x1024.size inb_S1x1024_S1x1024_0_0).toLoadRect (View.loadsAt_vmem h_S1x1024))
      let _o : Vec F S32x1024 .f32 ← Prog.lift (.load a2 (Rect.unit (s := S1024x1024) (k0_off3 d (winW w)) S32x1024.size (k0_off3_inb d w)).toLoadRect (View.loadsAt_vmem h_S32x1024))
      Prog.lift (.store a2 (Rect.unit (s := S1024x1024) (k0_off3 d (winW w)) S32x1024.size (k0_off3_inb d w)) (blk own y0 y1 y2 g) Finset.univ (View.stores_vmem_bits_univ h_S32x1024 rfl) (.inl rfl))

/-- The steps of a list, one after another. -/
def runs (d : Dev nD) : List Step → Pr F
  | [] => pure ⟨⟩
  | σ :: σs => den a0 a1 a2 a3 d σ >>= fun _ => runs d σs

/-- The copies of ring step `s` of window `w`: to the next device while `s < 3`, then to the previous one. -/
def ringX (w : Fin 4) : ℕ → List Xf
  | 0 => [.r w 0, .l w 0]
  | 1 => [.r w 1, .l w 1]
  | 2 => [.r w 2, .l w 2]
  | 3 => [.l w 3]
  | _ => []

/-- The copies along y of window `w`. -/
def yX (w : Fin 4) : List Xf := [.y w 0, .y w 1, .y w 2]

/-- Window `w` at time `t` of the ring phase: at its time 0 it waits for the partial sums and computes, later
    it waits for the rows of the step before; then it sends the rows of its step. -/
def slotSteps (t : ℕ) (w : Fin 4) : List Step :=
  if t < w.val then [] else
  (if t - w.val = 0 then (yX w).map .got ++ [.comp w] else (ringX w (t - w.val - 1)).map .got)
    ++ (ringX w (t - w.val)).map .send

/-- The ring phase's windows in the order it takes them. -/
def times : List (ℕ × Fin 4) := (List.range 8).flatMap fun t => [(t, 0), (t, 1), (t, 2), (t, 3)]

/-- The body: the barrier, the copies along y, the ring phase, and the waits for what is still leaving. -/
def steps : List Step :=
  [.sig 0, .sig 1, .sig 2, .sig 3, .sig 4, .bar]
  ++ (yX 0).map .send ++ (yX 0).map .sent ++ (yX 1).map .send ++ (yX 1).map .sent
  ++ (yX 2).map .send ++ (yX 2).map .sent ++ (yX 3).map .send
  ++ times.flatMap (fun q => slotSteps q.1 q.2)
  ++ (yX 3).map .sent
  ++ times.flatMap (fun q => if q.1 < q.2.val then [] else (ringX q.2 (q.1 - q.2.val)).map .sent)

/-- The whole body: it reads its device, then takes the steps. -/
def prog : Pr F := do
  let d : Dev nD ← Prog.lift .deviceId
  runs a0 a1 a2 a3 d steps

set_option maxRecDepth 65536 in
/-- The printed body on the scoped semaphore arrays is the list of steps. -/
theorem body_eq (h0 : a0.IsWhole) (h1 : a1.IsWhole) (h2 : a2.IsWhole) (h3 : a3.IsWhole) :
    cc0_body (F := F) a0 h0 a1 h1 a2 h2 a3 h3 cc0_scratch1 cc0_scratch2 cc0_scratch3 cc0_scratch4 cc0_scratch5 cc0_scratch6
      = prog a0 a1 a2 a3 := by
  chain_rfl

end Cert.KernelIdeal.Run

end
-- ==== Proof.Mesh.lean ====
/- The mesh as the kernel sees it: a device's coordinate along y and its position in the ring that runs
   through x and z, the peers of every copy and of every signal, and the rows every copy moves, in terms of
   these two coordinates. -/
module

public import proofs.«01_k».proof.Proof.Steps

@[expose] public section

noncomputable section

namespace Cert.KernelIdeal.Run

open Idealize.ShloMosaic Idealize.ShloMosaic.TcCoe
open Idealize.SL Idealize.SL.Sem
open Cert.KernelIdeal.Gen

/-- A device's coordinate along y. -/
def yy (d : Dev nD) : Fin 4 := ⟨d.val / 4 % 4, Nat.mod_lt _ (by decide)⟩

/-- A device's position in the ring of the eight devices with its y coordinate: up along z at x = 0, back at x = 1. -/
def pp (d : Dev nD) : Fin 8 := ⟨if d.val / 16 = 0 then d.val % 4 else 7 - d.val % 4, by split <;> omega⟩

/-- The device at a y coordinate and a ring position. -/
def dv (y : Fin 4) (p : Fin 8) : Dev nD :=
  ⟨if p.val < 4 then 4 * y.val + p.val else 16 + 4 * y.val + (7 - p.val), by show _ < 32; split <;> omega⟩

theorem dv_yy_pp (d : Dev nD) : dv (yy d) (pp d) = d := by revert d; decide +kernel
theorem yy_dv (y : Fin 4) (p : Fin 8) : yy (dv y p) = y := by revert y p; decide +kernel
theorem pp_dv (y : Fin 4) (p : Fin 8) : pp (dv y p) = p := by revert y p; decide +kernel

/-- The device `k` further along y. -/
def ySh (k : Fin 4) (d : Dev nD) : Dev nD := dv (yy d + k) (pp d)

/-- The device `k` further along the ring. -/
def pSh (k : Fin 8) (d : Dev nD) : Dev nD := dv (yy d) (pp d + k)

theorem ySh_ySh (k k' : Fin 4) (d : Dev nD) : ySh k (ySh k' d) = ySh (k' + k) d := by
  revert k k' d; decide +kernel
theorem pSh_pSh (k k' : Fin 8) (d : Dev nD) : pSh k (pSh k' d) = pSh (k' + k) d := by
  revert k k' d; decide +kernel
theorem ySh_zero (d : Dev nD) : ySh 0 d = d := by revert d; decide +kernel
theorem pSh_zero (d : Dev nD) : pSh 0 d = d := by revert d; decide +kernel

/-- The number of devices along y a copy or signal with offset `o` goes: `o + 1`. -/
def up (o : Fin 3) : Fin 4 := o.succ

/-- The number of devices along y that lead back from `o + 1` further: `3 - o`. -/
def dn (o : Fin 3) : Fin 4 := ⟨3 - o.val, by omega⟩

theorem up_dn (o : Fin 3) : up o + dn o = 0 := by revert o; decide
theorem dn_up (o : Fin 3) : dn o + up o = 0 := by revert o; decide

/-- The device a copy goes to. -/
def peer : Xf → Dev nD → Dev nD
  | .y _ o, d => ySh (up o) d
  | .r _ _, d => pSh 1 d
  | .l _ _, d => pSh 7 d

/-- The device a copy comes from. -/
def back : Xf → Dev nD → Dev nD
  | .y _ o, d => ySh (dn o) d
  | .r _ _, d => pSh 7 d
  | .l _ _, d => pSh 1 d

theorem peer_back (x : Xf) (d : Dev nD) : peer x (back x d) = d := by
  cases x <;> simp only [peer, back, ySh_ySh, pSh_pSh]
  · rw [dn_up, ySh_zero]
  · exact pSh_zero d
  · exact pSh_zero d

theorem back_peer (x : Xf) (d : Dev nD) : back x (peer x d) = d := by
  cases x <;> simp only [peer, back, ySh_ySh, pSh_pSh]
  · rw [up_dn, ySh_zero]
  · exact pSh_zero d
  · exact pSh_zero d

/-- The devices and the peers of one copy, one to one. -/
def peerE (x : Xf) : Dev nD ≃ Dev nD := ⟨peer x, back x, back_peer x, peer_back x⟩

/-- The copy's printed device is its peer. -/
theorem xDev_eq (x : Xf) (d : Dev nD) : xDev x d = peer x d := by revert x d; decide +kernel

/-- The device a signal goes to: along y for the first three, then the next and the previous of the ring. -/
def sigTo : Fin 5 → Dev nD → Dev nD
  | 0, d => ySh 1 d
  | 1, d => ySh 2 d
  | 2, d => ySh 3 d
  | 3, d => pSh 1 d
  | 4, d => pSh 7 d

/-- The device a signal comes from. -/
def sigFrom : Fin 5 → Dev nD → Dev nD
  | 0, d => ySh 3 d
  | 1, d => ySh 2 d
  | 2, d => ySh 1 d
  | 3, d => pSh 7 d
  | 4, d => pSh 1 d

theorem sigTo_sigFrom (i : Fin 5) (d : Dev nD) : sigTo i (sigFrom i d) = d := by revert i d; decide +kernel
theorem sigFrom_sigTo (i : Fin 5) (d : Dev nD) : sigFrom i (sigTo i d) = d := by revert i d; decide +kernel

/-- The devices and the targets of one signal, one to one. -/
def sigE (i : Fin 5) : Dev nD ≃ Dev nD := ⟨sigTo i, sigFrom i, sigFrom_sigTo i, sigTo_sigFrom i⟩

/-- The signal's printed device is its target. -/
theorem sigDev_eq (i : Fin 5) (d : Dev nD) : sigDev i d = sigTo i d := by revert i d; decide +kernel

/-- The signal of the barrier that a copy waits for: it comes from the copy's peer. -/
def via : Xf → Fin 5
  | .y _ 0 => 2
  | .y _ 1 => 1
  | .y _ 2 => 0
  | .l _ _ => 3
  | .r _ _ => 4

theorem sigTo_via_peer (x : Xf) (d : Dev nD) : sigTo (via x) (peer x d) = d := by revert x d; decide +kernel
theorem peer_via (x : Xf) (d : Dev nD) : peer x (sigTo (via x) d) = d := by revert x d; decide +kernel

theorem pc_inb (y : Fin 4) (q : Fin 8) (w : Fin 4) :
    ∀ a, (![1024 * y.val + 128 * q.val + 32 * w.val, 0] : Fin 2 → ℕ) a + S32x1024.size a ≤ S4096x1024.size a := by
  revert y q w; decide +kernel

theorem oc_inb (q : Fin 8) (w : Fin 4) :
    ∀ a, (![128 * q.val + 32 * w.val, 0] : Fin 2 → ℕ) a + S32x1024.size a ≤ S1024x1024.size a := by
  revert q w; decide +kernel

/-- The 32 rows of a partial sum that belong to y coordinate `y`, ring position `q` and window `w`. -/
abbrev partRect (y : Fin 4) (q : Fin 8) (w : Fin 4) : Rect S4096x1024 :=
  Rect.unit ![1024 * y.val + 128 * q.val + 32 * w.val, 0] S32x1024.size (pc_inb y q w)

/-- The 32 rows of the result that belong to ring position `q` and window `w`. -/
abbrev outRect (q : Fin 8) (w : Fin 4) : Rect S1024x1024 :=
  Rect.unit ![128 * q.val + 32 * w.val, 0] S32x1024.size (oc_inb q w)

/-- Slices of one memref by unit-stride rectangles of one size with the same offset are equal. -/
theorem slice_congr {s : Shape} {e : EltTy} (M : Memref sig .tc .vmem s e) {off off' size : Fin s.rank → ℕ} (h : off = off')
    (inb : ∀ a, off a + size a ≤ s.size a) (inb' : ∀ a, off' a + size a ≤ s.size a) :
    M.slice (Rect.unit off size inb) (fun _ => rfl) = M.slice (Rect.unit off' size inb') (fun _ => rfl) := by
  subst h; rfl

theorem off1_eq (d : Dev nD) (o : Fin 3) (w : Fin 4) :
    k0_off1 d (BitVec.ofNat 32 (1 + o.val)) (winW w)
      = ![1024 * (yy d + up o).val + 128 * (pp d).val + 32 * w.val, 0] := by
  revert d o w; decide +kernel
theorem off2_eq (d : Dev nD) (w : Fin 4) :
    k0_off2 d (winW w) = ![1024 * (yy d).val + 128 * (pp d).val + 32 * w.val, 0] := by
  revert d w; decide +kernel
theorem off3_eq (d : Dev nD) (w : Fin 4) : k0_off3 d (winW w) = ![128 * (pp d).val + 32 * w.val, 0] := by
  revert d w; decide +kernel

/-- The ring position whose rows step `s` to the next device sends, counted from the own position. -/
def kR (s : Fin 3) : Fin 8 := ⟨(8 - s.val) % 8, Nat.mod_lt _ (by decide)⟩
/-- The ring position whose rows step `s` to the previous device sends, counted from the own position. -/
def kL (s : Fin 4) : Fin 8 := ⟨s.val, by omega⟩

theorem off4_eq (d : Dev nD) (w : Fin 4) (s : Fin 3) :
    k0_off4 d (BitVec.ofNat 32 s.val) (winW w) = ![128 * (pp d + kR s).val + 32 * w.val, 0] := by
  revert d s w; decide +kernel
theorem off5_eq (d : Dev nD) (w : Fin 4) (s : Fin 4) :
    k0_off5 d (BitVec.ofNat 32 s.val) (winW w) = ![128 * (pp d + kL s).val + 32 * w.val, 0] := by
  revert d s w; decide +kernel
theorem off6_eq (d : Dev nD) (w : Fin 4) (s : Fin 3) :
    k0_off6 d (BitVec.ofNat 32 s.val) (winW w) = ![128 * (pp d + 7 + kR s).val + 32 * w.val, 0] := by
  revert d s w; decide +kernel
theorem off7_eq (d : Dev nD) (w : Fin 4) (s : Fin 4) :
    k0_off7 d (BitVec.ofNat 32 s.val) (winW w) = ![128 * (pp d + 1 + kL s).val + 32 * w.val, 0] := by
  revert d s w; decide +kernel

variable (a0 : Memref sig .tc .vmem S4096x1024 .f32) (a2 : Memref sig .tc .vmem S1024x1024 .f32)

/-- A chunk of 32 rows of the partial sum. -/
abbrev partC (y : Fin 4) (q : Fin 8) (w : Fin 4) : Memref sig .tc .vmem S32x1024 .f32 :=
  a0.slice (partRect y q w) (fun _ => rfl)

/-- A chunk of 32 rows of the result. -/
abbrev outC (q : Fin 8) (w : Fin 4) : Memref sig .tc .vmem S32x1024 .f32 :=
  a2.slice (outRect q w) (fun _ => rfl)

/-- The rows a copy along y sends are the chunk that belongs to its peer. -/
theorem partM_eq (d : Dev nD) (w : Fin 4) (o : Fin 3) : partM a0 d w o = partC a0 (yy d + up o) (pp d) w :=
  slice_congr a0 (off1_eq d o w) _ _
theorem outR_eq (d : Dev nD) (w : Fin 4) (s : Fin 3) : outR a2 d w s = outC a2 (pp d + kR s) w :=
  slice_congr a2 (off4_eq d w s) _ _
theorem outL_eq (d : Dev nD) (w : Fin 4) (s : Fin 4) : outL a2 d w s = outC a2 (pp d + kL s) w :=
  slice_congr a2 (off5_eq d w s) _ _
theorem inR_eq (d : Dev nD) (w : Fin 4) (s : Fin 3) : inR a2 d w s = outC a2 (pp d + 7 + kR s) w :=
  slice_congr a2 (off6_eq d w s) _ _
theorem inL_eq (d : Dev nD) (w : Fin 4) (s : Fin 4) : inL a2 d w s = outC a2 (pp d + 1 + kL s) w :=
  slice_congr a2 (off7_eq d w s) _ _

end Cert.KernelIdeal.Run

end
-- ==== Proof.Proto.lean ====
/- The protocol of the kernel: what every device's memory comes to hold, what each semaphore hands over and at
   which amount, what a device owes the others, and the order the waits respect. -/
module

public import proofs.«01_k».proof.Proof.Mesh
public import Idealize.ShloMosaic.Lib.Pipeline.Launch
public import Idealize.ShloMosaic.Lib.Pipeline.Kit
public import Idealize.ShloMosaic.Lib.Rounds
public import Idealize.ShloMosaic.Lib.Tactic

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The buffers, the cells -/

/-- The staging copy of the partial sum, of the scale, of the result; the receive scratch. -/
abbrev A0 : Memref sig .tc .vmem S4096x1024 .f32 := Memref.whole cc0_stg0_0
abbrev A1 : Memref sig .tc .vmem S1x1024 .f32 := Memref.whole cc0_stg1_0
abbrev A2 : Memref sig .tc .vmem S1024x1024 .f32 := Memref.whole cc0_stg2_0
abbrev A3 : Memref sig .tc .vmem S4x3x32x1024 .f32 := Memref.whole cc0_scratch0

/-- A buffer's view on a device, held at a share with the values it shows. -/
abbrev hold {s : Shape} (c : Dev nD) (M : Memref sig .tc .vmem s .f32) (q : PosShare TreeShare) (X : Vec F s .f32) : sProp 𝕄 :=
  owns (c : Thread nD τ) M q X

/-- A semaphore of the kernel on one device: the barrier, the send or the receive semaphore of a copy. -/
inductive Ck
  | b
  | s (x : Xf)
  | r (x : Xf)
  deriving DecidableEq, Fintype

/-- The semaphore itself. -/
def csem : Ck → SemLoc sig
  | .b => .reg barS
  | .s x => .dma (sSem x)
  | .r x => .dma (rSem x)

theorem csem_inj : Function.Injective csem := by
  have h : ∀ a b : Ck, csem a = csem b → a = b := by decide +kernel
  exact fun a b => h a b

/-- The cell of a semaphore on a device. -/
abbrev kcell (c : Dev nD) (k : Ck) : GSem nD τ sig := ((c : Thread nD τ), csem k)

open Classical in
/-- The kernel's semaphore a location names, if any. -/
def ckOf (s : SemLoc sig) : Option Ck := if h : ∃ k, csem k = s then some h.choose else none

theorem ckOf_csem (k : Ck) : ckOf (csem k) = some k := by
  unfold ckOf
  have h : ∃ k', csem k' = csem k := ⟨k, rfl⟩
  rw [dif_pos h]
  exact congrArg some (csem_inj h.choose_spec)

/-! ## Contents -/

/-- One window of the computation, on the rows of the four partial sums. -/
def rows (own y0 y1 y2 : Vec F S32x1024 .f32) (g : Vec F S1x1024 .f32) : Vec F S32x1024 .f32 :=
  k0_pay9 own (shapeCast S1x1x32x1024 y0 rfl) (shapeCast S1x1x32x1024 y1 rfl) (shapeCast S1x1x32x1024 y2 rfl) g

variable (P : Dev nD → Vec F S4096x1024 .f32) (G : Dev nD → Vec F S1x1024 .f32)

/-- A chunk of a device's partial sum. -/
def partV (c : Dev nD) (y : Fin 4) (q : Fin 8) (w : Fin 4) : Vec F S32x1024 .f32 := fun j => P c ((partRect y q w).emb j)

/-- The rows a device receives along y: those of the device they come from. -/
def ysV (c : Dev nD) (w : Fin 4) (o : Fin 3) : Vec F S32x1024 .f32 := partV P (ySh (dn o) c) (yy c) (pp c) w

/-- The rows of the result a device computes. -/
def ownV (c : Dev nD) (w : Fin 4) : Vec F S32x1024 .f32 :=
  rows (partV P c (yy c) (pp c) w) (ysV P c w 0) (ysV P c w 1) (ysV P c w 2) (G c)

/-- A chunk of the gathered result: the rows computed by the device at that position of the ring. -/
def outV (c : Dev nD) (q : Fin 8) (w : Fin 4) : Vec F S32x1024 .f32 := ownV P G (dv (yy c) q) w

/-- What a copy reads on the device that issues it. -/
def srcM : Xf → Dev nD → Memref sig .tc .vmem S32x1024 .f32
  | .y w o, c => partC A0 (yy c + up o) (pp c) w
  | .r w s, c => outC A2 (pp c + kR s) w
  | .l w s, c => outC A2 (pp c + kL s) w

/-- What it writes on its peer. -/
def dstM : Xf → Dev nD → Memref sig .tc .vmem S32x1024 .f32
  | .y w o, _ => slotM A3 w o
  | .r w s, c => outC A2 (pp c + kR s) w
  | .l w s, c => outC A2 (pp c + kL s) w

/-- The values it moves. -/
def srcV : Xf → Dev nD → Vec F S32x1024 .f32
  | .y w o, c => partV P c (yy c + up o) (pp c) w
  | .r w s, c => outV P G c (pp c + kR s) w
  | .l w s, c => outV P G c (pp c + kL s) w

/-- The share of the source a copy holds: the own rows leave both ways at once, each copy on one half. -/
def shr : Xf → PosShare TreeShare
  | .y _ _ => fullShare
  | .r _ s => if s = 0 then fullShare.left else fullShare
  | .l _ s => if s = 0 then fullShare.right else fullShare

/-- What every copy signals: the credit of 32 rows. -/
abbrev N : ℕ := (partC A0 0 0 0 : Memref sig .tc .vmem S32x1024 .f32).view.dmaCredit
theorem N_pos : 0 < N := View.dmaCredit_pos _ (by decide)
theorem credit_dst (x : Xf) (c : Dev nD) : (dstM x c).view.dmaCredit = N := by cases x <;> rfl

/-! ## The schedule -/

/-- Where a copy of device `c` goes: its destination on the peer, and the semaphore of its arrival there in use. -/
def spot (c : Dev nD) (x : Xf) : sProp 𝕄 :=
  iprop(reached ER (kcell (peer x c) (.r x)) 0 ∗ ∃ X, hold (peer x c) (dstM x c) fullShare X)

/-- What the `i`-th signal to device `c` hands over: where that device's copies to the device that signals go. -/
def barPay (c : Dev nD) (i : Fin 5) : sProp 𝕄 :=
  bigSep (Finset.univ.filter fun x => via x = i) fun x => spot c x

/-- What a copy's departure hands back: its source. -/
def srcPay (x : Xf) (c : Dev nD) : sProp 𝕄 := hold c (srcM x c) (shr x) (srcV P G x c)

/-- What a copy's arrival hands over: its destination, holding the values it moved. -/
def dstPay (x : Xf) (c : Dev nD) : sProp 𝕄 := hold c (dstM x (back x c)) fullShare (srcV P G x (back x c))

/-- One round of each cell: the barrier takes five units, one from each signalling device; every other cell takes
    one copy's credit. -/
def sched : Rounds.Schedule (GSem nD τ sig) (Fin 5) 𝕄 where
  duties g r := if r = 0 ∧ g.1.2 = .tc then (match ckOf g.2 with | some .b => Finset.univ | some _ => {0} | none => ∅) else ∅
  unitless _ := False
  amount g _ _ := match ckOf g.2 with | some .b => 1 | _ => N
  payload g _ i := match ckOf g.2 with
    | some .b => barPay g.1.1 i
    | some (.s x) => srcPay P G x g.1.1
    | some (.r x) => dstPay P G x g.1.1
    | none => iprop(emp)
  amount_pos g _ _ _ := by
    show 0 < (match ckOf g.2 with | some .b => 1 | _ => N)
    split
    · exact Nat.one_pos
    · exact N_pos

instance sched_payload_storable (g : GSem nD τ sig) (r : ℕ) (i : Fin 5) :
    BI.Storable (upEmb : UEmb _ 𝕄) ((sched (F := F) P G).payload g r i) := by
  unfold sched barPay spot srcPay dstPay hold owns
  dsimp only
  split <;> infer_instance

section Sched
variable (c : Dev nD)

theorem duties_b : (sched (F := F) P G).duties (kcell c .b) 0 = Finset.univ := by
  dsimp only [sched]; rw [if_pos ⟨rfl, rfl⟩, ckOf_csem]
theorem duties_s (x : Xf) : (sched (F := F) P G).duties (kcell c (.s x)) 0 = {0} := by
  dsimp only [sched]; rw [if_pos ⟨rfl, rfl⟩, ckOf_csem]
theorem duties_r (x : Xf) : (sched (F := F) P G).duties (kcell c (.r x)) 0 = {0} := by
  dsimp only [sched]; rw [if_pos ⟨rfl, rfl⟩, ckOf_csem]
theorem duties_later (g : GSem nD τ sig) : ∀ r, 1 ≤ r → (sched (F := F) P G).duties g r = ∅ :=
  fun r hr => by dsimp only [sched]; rw [if_neg fun h => by omega]

theorem amount_b (i : Fin 5) : (sched (F := F) P G).amount (kcell c .b) 0 i = 1 := by
  dsimp only [sched]; rw [ckOf_csem]
theorem amount_s (x : Xf) (i : Fin 5) : (sched (F := F) P G).amount (kcell c (.s x)) 0 i = N := by
  dsimp only [sched]; rw [ckOf_csem]
theorem amount_r (x : Xf) (i : Fin 5) : (sched (F := F) P G).amount (kcell c (.r x)) 0 i = N := by
  dsimp only [sched]; rw [ckOf_csem]

theorem expect_b : (sched (F := F) P G).expect (kcell c .b) 0 = 5 := by
  unfold Schedule.expect Schedule.amountOf
  rw [duties_b, Finset.sum_congr rfl fun d _ => amount_b P G c d, Finset.sum_const, Finset.card_univ, Fintype.card_fin, smul_eq_mul]
theorem expect_s (x : Xf) : (sched (F := F) P G).expect (kcell c (.s x)) 0 = N := by
  unfold Schedule.expect Schedule.amountOf; rw [duties_s, Finset.sum_singleton, amount_s]
theorem expect_r (x : Xf) : (sched (F := F) P G).expect (kcell c (.r x)) 0 = N := by
  unfold Schedule.expect Schedule.amountOf; rw [duties_r, Finset.sum_singleton, amount_r]

theorem payload_b (i : Fin 5) : (sched (F := F) P G).payload (kcell c .b) 0 i = barPay c i := by
  dsimp only [sched]; rw [ckOf_csem]
theorem payload_s (x : Xf) (i : Fin 5) : (sched (F := F) P G).payload (kcell c (.s x)) 0 i = srcPay P G x c := by
  dsimp only [sched]; rw [ckOf_csem]
theorem payload_r (x : Xf) (i : Fin 5) : (sched (F := F) P G).payload (kcell c (.r x)) 0 i = dstPay P G x c := by
  dsimp only [sched]; rw [ckOf_csem]

/-- The whole barrier round hands over the destinations of all the device's copies. -/
theorem rest_b : bigSep ((sched (F := F) P G).duties (kcell c .b) 0 \ ∅) (fun d => (sched (F := F) P G).payload (kcell c .b) 0 d)
    = bigSep Finset.univ fun x : Xf => spot (F := F) c x := by
  rw [Finset.sdiff_empty, duties_b, bigSep_congr fun i _ => payload_b P G c i]
  unfold barPay
  rw [bigSep_fiberwise (M := 𝕄) Finset.univ via, show (Finset.univ : Finset Xf).image via = Finset.univ from by decide]
theorem rest_s (x : Xf) : bigSep ((sched (F := F) P G).duties (kcell c (.s x)) 0 \ ∅) (fun d => (sched (F := F) P G).payload (kcell c (.s x)) 0 d) = srcPay P G x c := by
  rw [Finset.sdiff_empty, duties_s, bigSep_singleton, payload_s]
theorem rest_r (x : Xf) : bigSep ((sched (F := F) P G).duties (kcell c (.r x)) 0 \ ∅) (fun d => (sched (F := F) P G).payload (kcell c (.r x)) 0 d) = dstPay P G x c := by
  rw [Finset.sdiff_empty, duties_r, bigSep_singleton, payload_r]

end Sched

/-! ## What a device owes, and the order of the waits -/

/-- What a step pays: a unit to the barrier it signals, a copy's credit to the semaphore it arrives at. -/
def pay (c : Dev nD) : Step → CellTallies nD τ sig Unit
  | .sig i => tallyAt (kcell (sigTo i c) .b) () 1
  | .send x => tallyAt (kcell (peer x c) (.r x)) () N
  | _ => 0

/-- What a device owes before a list of steps: all that they pay. -/
def oweL (c : Dev nD) : List Step → CellTallies nD τ sig Unit
  | [] => 0
  | σ :: σs => oweL c σs + pay c σ

/-- The semaphore a step pays, if it pays. -/
def paid : Step → Option Ck
  | .sig _ => some .b
  | .send x => some (.r x)
  | _ => none

/-- The rank of a semaphore: departures and the staging copies first, then the barrier, then the copies along y, then
    those of the ring by the time at which they are sent. -/
def rank : Ck → ℕ
  | .b => 1
  | .s _ => 0
  | .r (.y _ _) => 2
  | .r (.r w s) => 3 + s.val + w.val
  | .r (.l w s) => 3 + s.val + w.val

def L (g : GSem nD τ sig) : Finset Unit := if g.1.2 = .tc then {()} else ∅
/-- The rank of a cell. -/
def lv (g : GSem nD τ sig) (_ : Unit) : ℕ := match ckOf g.2 with | some k => rank k | none => 0

theorem L_of_ne (g : GSem nD τ sig) (h : g.1.2 ≠ .tc) : L g = ∅ := if_neg h
theorem L_tc (c : Dev nD) (sm : SemLoc sig) : L ((c : Thread nD τ), sm) = {()} := if_pos rfl

theorem lv_kcell (c : Dev nD) (k : Ck) : lv (kcell c k) () = rank k := by unfold lv; rw [ckOf_csem]

/-- A cell a device owes before some steps is one that one of them pays. -/
theorem oweL_pos {c : Dev nD} {σs : List Step} {g : GSem nD τ sig} {u : Unit} (h : 0 < oweL c σs g u) :
    ∃ σ ∈ σs, ∃ k d, paid σ = some k ∧ g = kcell d k := by
  induction σs with
  | nil => exact absurd h (Nat.lt_irrefl 0)
  | cons σ σs ih =>
    rw [oweL, Pi.add_apply, Finsupp.add_apply] at h
    by_cases h0 : 0 < oweL c σs g u
    · obtain ⟨σ', hm, r⟩ := ih h0
      exact ⟨σ', List.mem_cons_of_mem _ hm, r⟩
    · have h1 : 0 < pay c σ g u := by omega
      refine ⟨σ, List.mem_cons_self, ?_⟩
      cases σ with
      | sig i =>
        unfold pay at h1; rw [tallyAt_apply] at h1
        by_cases hg : g = kcell (sigTo i c) .b ∧ u = ()
        · exact ⟨.b, _, rfl, hg.1⟩
        · rw [if_neg hg] at h1; exact absurd h1 (Nat.lt_irrefl 0)
      | send x =>
        unfold pay at h1; rw [tallyAt_apply] at h1
        by_cases hg : g = kcell (peer x c) (.r x) ∧ u = ()
        · exact ⟨.r x, _, rfl, hg.1⟩
        · rw [if_neg hg] at h1; exact absurd h1 (Nat.lt_irrefl 0)
      | bar => exact absurd h1 (Nat.lt_irrefl 0)
      | sent x => exact absurd h1 (Nat.lt_irrefl 0)
      | got x => exact absurd h1 (Nat.lt_irrefl 0)
      | comp w => exact absurd h1 (Nat.lt_irrefl 0)

/-- Whether a wait at rank `n` may come before some steps: all that they pay ranks higher. -/
def above (n : ℕ) : List Step → Bool
  | [] => true
  | σ :: σs => (match paid σ with | some k => Nat.blt n (rank k) | none => true) && above n σs

theorem above_mem {n : ℕ} {σs : List Step} (h : above n σs = true) {σ : Step} (hσ : σ ∈ σs) {k : Ck} (hk : paid σ = some k) :
    n < rank k := by
  induction σs with
  | nil => cases hσ
  | cons σ' σs ih =>
    rw [above, Bool.and_eq_true] at h
    rcases List.mem_cons.mp hσ with rfl | hm
    · have := h.1; rw [hk] at this; simpa using this
    · exact ih h.2 hm

/-- A device may wait on a semaphore that ranks below all it still has to pay. -/
theorem mayWait (c : Dev nD) (sm : SemLoc sig) (n : ℕ) (hn : lv ((c : Thread nD τ), sm) () ≤ n) (σs : List Step) (h : above n σs = true) :
    (levAts L lv : sProp 𝕄) ⊢ MayWait (c : Thread nD τ) sm () (oweL c σs) :=
  MayOwe.of_cut (L := L) (lev := lv) n (fun p hp => by rw [Finset.mem_singleton.mp hp, L_tc]; exact Finset.mem_singleton_self _)
    (fun g u hg => by obtain ⟨σ, -, k, d, -, rfl⟩ := oweL_pos hg; rw [L_tc]; exact Finset.mem_singleton_self _)
    (fun p hp => by rw [Finset.mem_singleton.mp hp]; exact hn)
    (fun g u hg => by obtain ⟨σ, hσ, k, d, hk, rfl⟩ := oweL_pos hg; rw [lv_kcell]; exact above_mem h hσ hk)

end Cert.KernelIdeal.Run

end
-- ==== Proof.Atoms.lean ====
/- The pieces of what a device holds, and which of them each step takes and which it returns: the check, by
   computation, that the list of steps never takes a piece it does not hold, and never waits out of order. -/
module

public import proofs.«01_k».proof.Proof.Proto

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

/-- A piece of what a device holds:
    `sg i` what its `i`-th signal hands over, with the right to signal; `bw`, `bc` its barrier before and after the
    wait; `pre x`, `fly x`, `gone x` a copy's departure before, during and after; `wt x`, `rd x` its arrival before
    and after; `gr x` the destination on its peer; `ps`, `po` the chunks of the partial sum that leave and the own
    one; `ys` the rows received along y; `raw` the own rows of the result before they are computed, `oL`, `oR` their
    two halves afterwards; `oc k w` the rows of the ring position `k` further; `ga` the scale. -/
inductive Res
  | sg (i : Fin 5)
  | bw
  | bc
  | pre (x : Xf)
  | fly (x : Xf)
  | gone (x : Xf)
  | wt (x : Xf)
  | rd (x : Xf)
  | gr (x : Xf)
  | ps (w : Fin 4) (o : Fin 3)
  | po (w : Fin 4)
  | ys (w : Fin 4) (o : Fin 3)
  | raw (w : Fin 4)
  | oL (w : Fin 4)
  | oR (w : Fin 4)
  | oc (k : Fin 8) (w : Fin 4)
  | ga

/-- A number for a copy. -/
def Xf.code : Xf → ℕ
  | .y w o => 4 * w.val + o.val
  | .r w s => 16 + 4 * w.val + s.val
  | .l w s => 32 + 4 * w.val + s.val

theorem Xf.code_lt (x : Xf) : x.code < 48 := by cases x <;> simp only [Xf.code] <;> omega

theorem Xf.code_inj {x x' : Xf} (h : x.code = x'.code) : x = x' := by
  cases x <;> cases x' <;> simp only [Xf.code] at h <;> first
    | (exfalso; omega)
    | (congr 1 <;> exact Fin.ext (by omega))

/-- A number for a piece. -/
def Res.code : Res → ℕ
  | .sg i => i.val
  | .bw => 5
  | .bc => 6
  | .ga => 7
  | .pre x => 50 + x.code
  | .fly x => 100 + x.code
  | .gone x => 150 + x.code
  | .wt x => 200 + x.code
  | .rd x => 250 + x.code
  | .gr x => 300 + x.code
  | .ps w o => 350 + 4 * w.val + o.val
  | .po w => 370 + w.val
  | .ys w o => 380 + 4 * w.val + o.val
  | .raw w => 400 + w.val
  | .oL w => 410 + w.val
  | .oR w => 420 + w.val
  | .oc k w => 430 + 4 * k.val + w.val

theorem Res.code_inj {a b : Res} (h : a.code = b.code) : a = b := by
  have hx := Xf.code_lt
  cases a <;> cases b <;> simp only [Res.code] at h <;> first
    | rfl
    | (exfalso; omega)
    | (congr 1 <;> exact Fin.ext (by omega))
    | (congr 1; exact Xf.code_inj (by omega))
    | (rename_i x x'; have := hx x; have := hx x'; exfalso; omega)
    | (rename_i x _ _; have := hx x; exfalso; omega)
    | (rename_i _ x; have := hx x; exfalso; omega)
    | (rename_i x _; have := hx x; exfalso; omega)
    | (rename_i x; have := hx x; exfalso; omega)

instance : DecidableEq Res := fun a b =>
  if h : a.code = b.code then isTrue (Res.code_inj h) else isFalse fun e => h (congrArg Res.code e)

/-- The piece a copy reads. -/
def srcRes : Xf → Res
  | .y w o => .ps w o
  | .r w s => if s = 0 then .oL w else .oc (kR s) w
  | .l w s => if s = 0 then .oR w else .oc (kL s) w

/-- The piece a copy's arrival gives. -/
def gotRes : Xf → Res
  | .y w o => .ys w o
  | .r w s => .oc (7 + kR s) w
  | .l w s => .oc (1 + kL s) w

/-- All copies. -/
def allX : List Xf :=
  [0, 1, 2, 3].flatMap fun w => [.y w 0, .y w 1, .y w 2, .r w 0, .r w 1, .r w 2, .l w 0, .l w 1, .l w 2, .l w 3]

/-- The pieces a step takes. -/
def need : Step → List Res
  | .sig i => [.sg i]
  | .bar => [.bw]
  | .send x => [.pre x, .gr x, srcRes x]
  | .sent x => [.fly x]
  | .got x => [.wt x]
  | .comp w => [.po w, .ys w 0, .ys w 1, .ys w 2, .ga, .raw w]

/-- The pieces a step returns. -/
def gain : Step → List Res
  | .sig _ => []
  | .bar => .bc :: allX.map .gr
  | .send x => [.fly x]
  | .sent x => [.gone x, srcRes x]
  | .got x => [.rd x, gotRes x]
  | .comp w => [.po w, .ys w 0, .ys w 1, .ys w 2, .ga, .oL w, .oR w]

/-- The rank of the semaphore a step waits on; a step that does not wait ranks with the departures. -/
def wrank : Step → ℕ
  | .bar => 1
  | .got x => rank (.r x)
  | _ => 0

/-- Taking pieces out of a list of them, if all are there. -/
def take : List Res → List Res → Option (List Res)
  | [], S => some S
  | a :: rs, S => if a ∈ S then take rs (S.erase a) else none

/-- What a list of steps leaves of the pieces it starts from, if it may be taken from them. -/
def exec : List Step → List Res → Option (List Res)
  | [], S => some S
  | σ :: σs, S => if above (wrank σ) σs then (match take (need σ) S with | some S' => exec σs (gain σ ++ S') | none => none) else none

/-- The pieces a device starts from. -/
def start : List Res :=
  [.sg 0, .sg 1, .sg 2, .sg 3, .sg 4, .bw, .ga] ++ allX.map .pre ++ allX.map .wt
  ++ [0, 1, 2, 3].flatMap fun w => [.ps w 0, .ps w 1, .ps w 2, .po w, .raw w]

/-- The pieces it ends with. -/
def finish : List Res :=
  [.bc, .ga] ++ allX.map .gone ++ allX.map .rd
  ++ [0, 1, 2, 3].flatMap fun w =>
    [.ps w 0, .ps w 1, .ps w 2, .po w, .ys w 0, .ys w 1, .ys w 2, .oL w, .oR w,
      .oc 1 w, .oc 2 w, .oc 3 w, .oc 4 w, .oc 5 w, .oc 6 w, .oc 7 w]

/-- Whether the steps may be taken from the start and leave exactly the end. -/
def okay : Bool := match exec steps start with
  | some S => (match take finish S with | some [] => true | _ => false)
  | none => false

set_option maxRecDepth 100000 in
theorem okay_true : okay = true := by decide +kernel

theorem mem_allX (x : Xf) : x ∈ allX := by revert x; decide
theorem nodup_allX : allX.Nodup := by decide
theorem univ_allX : (Finset.univ : Finset Xf) = allX.toFinset := by decide

end Cert.KernelIdeal.Run

end
-- ==== Proof.Held.lean ====
/- What each piece means: the assertions behind the pieces, and the rules for taking pieces out of a list. -/
module

public import proofs.«01_k».proof.Proof.Atoms

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

/-! ## Lists of pieces -/

/-- The pieces of a list, held together. -/
def sepL (Φ : Res → sProp 𝕄) : List Res → sProp 𝕄
  | [] => iprop(emp)
  | a :: l => iprop(Φ a ∗ sepL Φ l)

theorem sepL_append (Φ : Res → sProp 𝕄) (l l' : List Res) : sepL Φ (l ++ l') = iprop(sepL Φ l ∗ sepL Φ l') := by
  induction l with
  | nil =>
    rw [List.nil_append]
    exact (_root_.Idealize.SL.BI.equiv_iff.mp _root_.Idealize.SL.BI.emp_sep).symm
  | cons a l ih => rw [List.cons_append, sepL, sepL, ih]; exact (_root_.Idealize.SL.BI.equiv_iff.mp ⟨_root_.Idealize.SL.BI.sep_assoc, _root_.Idealize.SL.BI.sep_assoc'⟩).symm

theorem sepL_erase (Φ : Res → sProp 𝕄) {a : Res} {S : List Res} (h : a ∈ S) : sepL Φ S ⊢ iprop(Φ a ∗ sepL Φ (S.erase a)) := by
  induction S with
  | nil => cases h
  | cons b S ih =>
    by_cases hb : b = a
    · subst hb; rw [List.erase_cons_head]; exact .rfl
    · rw [List.erase_cons_tail (by simpa using hb)]
      have hm : a ∈ S := (List.mem_cons.mp h).resolve_left fun e => hb e.symm
      have ih' := ih hm
      unfold sepL
      iintro ⟨Hb, HS⟩
      ihave H := ih' $$ HS
      icases H with ⟨Ha, HS⟩
      isplitl [Ha]; · iexact Ha
      isplitl [Hb]; · iexact Hb
      iexact HS

/-- Pieces that may be taken out of a list are held beside what is left of it. -/
theorem sepL_take (Φ : Res → sProp 𝕄) {l S S' : List Res} (h : take l S = some S') : sepL Φ S ⊢ iprop(sepL Φ l ∗ sepL Φ S') := by
  induction l generalizing S with
  | nil =>
    obtain rfl : S = S' := by simpa [take] using h
    exact (emp_sep (PROP := sProp 𝕄)).2
  | cons a l ih =>
    rw [take] at h
    by_cases hm : a ∈ S
    · rw [if_pos hm] at h
      have h1 := ih h
      have h2 := sepL_erase Φ hm
      iintro HS
      ihave H := h2 $$ HS
      icases H with ⟨Ha, HS⟩
      ihave H := h1 $$ HS
      icases H with ⟨Hl, HS⟩
      isplitl [Ha Hl]
      · rw [show sepL Φ (a :: l) = iprop(Φ a ∗ sepL Φ l) from rfl]
        isplitl [Ha]; · iexact Ha
        iexact Hl
      iexact HS
    · rw [if_neg hm] at h; cases h

/-- One kind of piece for every item of a list without repetitions is the pieces of that list. -/
theorem sepL_map (Φ : Res → sProp 𝕄) {I : Type} [DecidableEq I] (f : I → Res) (l : List I) (hl : l.Nodup) :
    bigSep l.toFinset (fun x => Φ (f x)) = sepL Φ (l.map f) := by
  induction l with
  | nil => exact bigSep_empty
  | cons a l ih =>
    have ha : a ∉ l.toFinset := by simpa using (List.nodup_cons.mp hl).1
    rw [List.toFinset_cons, bigSep_insert ha, ih (List.nodup_cons.mp hl).2]
    rfl

theorem sepL_allX (Φ : Res → sProp 𝕄) (f : Xf → Res) :
    bigSep (Finset.univ : Finset Xf) (fun x => Φ (f x)) = sepL Φ (allX.map f) := by
  rw [univ_allX, sepL_map Φ f allX nodup_allX]

/-! ## The pieces -/

variable (P : Dev nD → Vec F S4096x1024 .f32) (G : Dev nD → Vec F S1x1024 .f32)

/-- What a piece of device `c` is. -/
def res (c : Dev nD) : Res → sProp 𝕄
  | .sg i => iprop(dutyTok ER (kcell (sigTo i c) .b) 0 i ∗ barPay (sigTo i c) i)
  | .bw => iprop(cred (tallyAt (kcell c .b) () 5) ∗ atPos ER (kcell c .b) 0 ∅ 0)
  | .bc => semVal (kcell c .b) 0
  | .pre x => iprop(dutyTok ER (kcell c (.s x)) 0 0 ∗ dutyTok ER (kcell (peer x c) (.r x)) 0 0 ∗ atPos ER (kcell c (.s x)) 0 ∅ 0
      ∗ reached ER (kcell c (.s x)) 0)
  | .fly x => iprop(cred (tallyAt (kcell c (.s x)) () N) ∗ atPos ER (kcell c (.s x)) 0 ∅ 0)
  | .gone x => semVal (kcell c (.s x)) 0
  | .wt x => iprop(cred (tallyAt (kcell c (.r x)) () N) ∗ atPos ER (kcell c (.r x)) 0 ∅ 0)
  | .rd x => semVal (kcell c (.r x)) 0
  | .gr x => spot c x
  | .ps w o => hold c (partC A0 (yy c + up o) (pp c) w) fullShare (partV P c (yy c + up o) (pp c) w)
  | .po w => hold c (partC A0 (yy c) (pp c) w) fullShare (partV P c (yy c) (pp c) w)
  | .ys w o => hold c (slotM A3 w o) fullShare (ysV P c w o)
  | .raw w => iprop(∃ X, hold c (outC A2 (pp c) w) fullShare X)
  | .oL w => hold c (outC A2 (pp c) w) fullShare.left (ownV P G c w)
  | .oR w => hold c (outC A2 (pp c) w) fullShare.right (ownV P G c w)
  | .oc k w => hold c (outC A2 (pp c + k) w) fullShare (outV P G c (pp c + k) w)
  | .ga => hold c A1 fullShare (G c)

theorem pp_zero (c : Dev nD) : pp c + 0 = pp c := by revert c; decide +kernel

/-- The rows at the own position of the ring are the device's own. -/
theorem outV_own (c : Dev nD) (w : Fin 4) : outV P G c (pp c) w = ownV P G c w := by
  unfold outV; rw [dv_yy_pp]

/-- The piece a copy reads is its source, at the copy's share. -/
theorem res_src (c : Dev nD) (x : Xf) : res P G c (srcRes x) = srcPay P G x c := by
  unfold srcPay
  cases x with
  | y w o => rfl
  | r w s =>
    by_cases h : s = 0
    · subst h
      show hold c (outC A2 (pp c) w) fullShare.left (ownV P G c w) = hold c (outC A2 (pp c + 0) w) fullShare.left (outV P G c (pp c + 0) w)
      rw [pp_zero, outV_own]
    · simp only [srcRes, shr, if_neg h]; rfl
  | l w s =>
    by_cases h : s = 0
    · subst h
      show hold c (outC A2 (pp c) w) fullShare.right (ownV P G c w) = hold c (outC A2 (pp c + 0) w) fullShare.right (outV P G c (pp c + 0) w)
      rw [pp_zero, outV_own]
    · simp only [srcRes, shr, if_neg h]; rfl

theorem back_r (c : Dev nD) (w : Fin 4) (s : Fin 3) : pp (back (.r w s) c) + kR s = pp c + (7 + kR s) ∧ yy (back (.r w s) c) = yy c := by
  revert c w s; decide +kernel
theorem back_l (c : Dev nD) (w s : Fin 4) : pp (back (.l w s) c) + kL s = pp c + (1 + kL s) ∧ yy (back (.l w s) c) = yy c := by
  revert c w s; decide +kernel
theorem back_y (c : Dev nD) (w : Fin 4) (o : Fin 3) : yy (back (.y w o) c) + up o = yy c ∧ pp (back (.y w o) c) = pp c := by
  revert c w o; decide +kernel

/-- The piece a copy's arrival gives is its destination, holding what the copy moved. -/
theorem res_got (c : Dev nD) (x : Xf) : res P G c (gotRes x) = dstPay P G x c := by
  unfold dstPay
  cases x with
  | y w o =>
    show hold c (slotM A3 w o) fullShare (ysV P c w o)
      = hold c (slotM A3 w o) fullShare (partV P (back (.y w o) c) (yy (back (.y w o) c) + up o) (pp (back (.y w o) c)) w)
    rw [(back_y c w o).1, (back_y c w o).2]; rfl
  | r w s =>
    show hold c (outC A2 (pp c + (7 + kR s)) w) fullShare (outV P G c (pp c + (7 + kR s)) w)
      = hold c (outC A2 (pp (back (.r w s) c) + kR s) w) fullShare (outV P G (back (.r w s) c) (pp (back (.r w s) c) + kR s) w)
    rw [(back_r c w s).1]; unfold outV; rw [(back_r c w s).2]
  | l w s =>
    show hold c (outC A2 (pp c + (1 + kL s)) w) fullShare (outV P G c (pp c + (1 + kL s)) w)
      = hold c (outC A2 (pp (back (.l w s) c) + kL s) w) fullShare (outV P G (back (.l w s) c) (pp (back (.l w s) c) + kL s) w)
    rw [(back_l c w s).1]; unfold outV; rw [(back_l c w s).2]

/-! ## What all devices share -/

variable (K : Dev nD × Ck → ℕ)

/-- The invariants of all cells, and the barriers in use. -/
def records : sProp 𝕄 :=
  iprop((bigSep Finset.univ fun p : Dev nD × Ck => cellInv ER (sched (F := F) P G) (K p) (kcell p.1 p.2))
    ∗ bigSep Finset.univ fun c : Dev nD => reached ER (kcell c .b) 0)

instance records_persistent : BI.Persistent (records P G K) := by unfold records; infer_instance

theorem records_at (c : Dev nD) (k : Ck) :
    records P G K ⊢ cellInv ER (sched (F := F) P G) (K (c, k)) (kcell c k) := by
  have h := bigSep_elim (Φ := fun p : Dev nD × Ck => (cellInv ER (sched (F := F) P G) (K p) (kcell p.1 p.2) : sProp 𝕄)) (Finset.mem_univ (c, k))
  unfold records
  iintro ⟨H, -⟩
  iapply (show _ ⊢ (cellInv ER (sched (F := F) P G) (K (c, k)) (kcell c k) : sProp 𝕄) from h)
  iexact H

theorem records_b (c : Dev nD) : records P G K ⊢ reached ER (kcell c .b) 0 := by
  have h := bigSep_elim (Φ := fun c : Dev nD => (reached ER (kcell c .b) 0 : sProp 𝕄)) (Finset.mem_univ c)
  unfold records
  iintro ⟨-, H⟩
  iapply (show _ ⊢ (reached ER (kcell c .b) 0 : sProp 𝕄) from h)
  iexact H

/-- What a device owes before a list of steps, whatever it has waited on. -/
def ow (c : Dev nD) (σs : List Step) : sProp 𝕄 := iprop(∃ W, owes (c : Thread nD τ) (oweL c σs) W)

end Cert.KernelIdeal.Run

end
-- ==== Proof.Carve.lean ====
/- The whole buffers of a device cut into the pieces its run starts from, and put together again from those it
   ends with. -/
module

public import proofs.«01_k».proof.Proof.Held
public import Idealize.ShloMosaic.Lib.Pipeline.Value
public import Idealize.ShloMosaic.Lib.MemrefSat

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

/-! ## Three families of rectangles that cover a buffer -/

/-- The rectangle of a chunk of the partial sum, of the result, and of a slot of the receive buffer, by its index. -/
abbrev partR (t : Fin 4 × Fin 8 × Fin 4) : Rect S4096x1024 := partRect t.1 t.2.1 t.2.2
abbrev outR' (t : Fin 8 × Fin 4) : Rect S1024x1024 := outRect t.1 t.2
abbrev slotR (t : Fin 4 × Fin 3) : Rect S4x3x32x1024 := slotRect t.1 t.2

theorem part_disj (t t' : Fin 4 × Fin 8 × Fin 4) (h : t ≠ t') : Disjoint (partR t).set (partR t').set := by
  obtain ⟨y, q, w⟩ := t
  obtain ⟨y', q', w'⟩ := t'
  refine Rect.unit_disjoint 0 ?_
  by_contra hn
  simp only [Matrix.cons_val_zero, show S32x1024.size 0 = 32 from rfl] at hn
  refine h ?_
  have h1 : y.val = y'.val := by omega
  have h2 : q.val = q'.val := by omega
  have h3 : w.val = w'.val := by omega
  rw [Fin.ext h1, Fin.ext h2, Fin.ext h3]

theorem out_disj (t t' : Fin 8 × Fin 4) (h : t ≠ t') : Disjoint (outR' t).set (outR' t').set := by
  obtain ⟨q, w⟩ := t
  obtain ⟨q', w'⟩ := t'
  refine Rect.unit_disjoint 0 ?_
  by_contra hn
  simp only [Matrix.cons_val_zero, show S32x1024.size 0 = 32 from rfl] at hn
  refine h ?_
  have h2 : q.val = q'.val := by omega
  have h3 : w.val = w'.val := by omega
  rw [Fin.ext h2, Fin.ext h3]

theorem slot_disj (t t' : Fin 4 × Fin 3) (h : t ≠ t') : Disjoint (slotR t).set (slotR t').set := by
  obtain ⟨w, o⟩ := t
  obtain ⟨w', o'⟩ := t'
  by_cases hw : w = w'
  · have ho : o.val ≠ o'.val := fun e => h (by rw [hw, Fin.ext e])
    refine Rect.unit_disjoint 1 ?_
    show o.val + 1 ≤ o'.val ∨ o'.val + 1 ≤ o.val
    omega
  · have ho : w.val ≠ w'.val := fun e => hw (Fin.ext e)
    refine Rect.unit_disjoint 0 ?_
    show w.val + 1 ≤ w'.val ∨ w'.val + 1 ≤ w.val
    omega

theorem part_cover : (Finset.univ : Finset (Fin 4 × Fin 8 × Fin 4)).biUnion (fun t => (partR t).set) = Finset.univ := by
  refine Finset.eq_univ_of_forall fun x => Finset.mem_biUnion.mpr ?_
  have h0 : (x 0).val < 4096 := (x 0).isLt
  have h1 : (x 1).val < 1024 := (x 1).isLt
  refine ⟨(⟨(x 0).val / 1024, by omega⟩, ⟨(x 0).val % 1024 / 128, by omega⟩, ⟨(x 0).val % 128 / 32, by omega⟩), Finset.mem_univ _, ?_⟩
  rw [Rect.mem_set_unit]
  intro a
  fin_cases a
  · show 1024 * ((x 0).val / 1024) + 128 * ((x 0).val % 1024 / 128) + 32 * ((x 0).val % 128 / 32) ≤ (x 0).val
      ∧ (x 0).val < 1024 * ((x 0).val / 1024) + 128 * ((x 0).val % 1024 / 128) + 32 * ((x 0).val % 128 / 32) + 32
    omega
  · show 0 ≤ (x 1).val ∧ (x 1).val < 0 + 1024
    omega

theorem out_cover : (Finset.univ : Finset (Fin 8 × Fin 4)).biUnion (fun t => (outR' t).set) = Finset.univ := by
  refine Finset.eq_univ_of_forall fun x => Finset.mem_biUnion.mpr ?_
  have h0 : (x 0).val < 1024 := (x 0).isLt
  have h1 : (x 1).val < 1024 := (x 1).isLt
  refine ⟨(⟨(x 0).val / 128, by omega⟩, ⟨(x 0).val % 128 / 32, by omega⟩), Finset.mem_univ _, ?_⟩
  rw [Rect.mem_set_unit]
  intro a
  fin_cases a
  · show 128 * ((x 0).val / 128) + 32 * ((x 0).val % 128 / 32) ≤ (x 0).val
      ∧ (x 0).val < 128 * ((x 0).val / 128) + 32 * ((x 0).val % 128 / 32) + 32
    omega
  · show 0 ≤ (x 1).val ∧ (x 1).val < 0 + 1024
    omega

theorem slot_cover : (Finset.univ : Finset (Fin 4 × Fin 3)).biUnion (fun t => (slotR t).set) = Finset.univ := by
  refine Finset.eq_univ_of_forall fun x => Finset.mem_biUnion.mpr ?_
  have h0 : (x 0).val < 4 := (x 0).isLt
  have h1 : (x 1).val < 3 := (x 1).isLt
  have h2 : (x 2).val < 32 := (x 2).isLt
  have h3 : (x 3).val < 1024 := (x 3).isLt
  refine ⟨(⟨(x 0).val, h0⟩, ⟨(x 1).val, h1⟩), Finset.mem_univ _, ?_⟩
  rw [Rect.mem_set_unit]
  intro a
  fin_cases a
  · show (x 0).val ≤ (x 0).val ∧ (x 0).val < (x 0).val + 1
    omega
  · show (x 1).val ≤ (x 1).val ∧ (x 1).val < (x 1).val + 1
    omega
  · show 0 ≤ (x 2).val ∧ (x 2).val < 0 + 32
    omega
  · show 0 ≤ (x 3).val ∧ (x 3).val < 0 + 1024
    omega

/-- Values on the whole shape that are given ones on each rectangle of a family of disjoint rectangles. -/
theorem glue_exists {s : Shape} {T α : Type} (hα : Nonempty α) (r : T → Rect s) (hd : ∀ t t', t ≠ t' → Disjoint (r t).set (r t').set)
    (g : ∀ t, (r t).shape.Idx → α) : ∃ X : s.Idx → α, ∀ t j, X ((r t).emb j) = g t j := by
  classical
  have hm : ∀ t j, (r t).emb j ∈ (r t).set := fun t j => by
    rw [← Rect.map_emb_univ]; exact Finset.mem_map_of_mem _ (Finset.mem_univ j)
  have hinj : Function.Injective fun p : (Σ t, (r t).shape.Idx) => (r p.1).emb p.2 := by
    rintro ⟨t, j⟩ ⟨t', j'⟩ h
    have h' : (r t).emb j = (r t').emb j' := h
    by_cases ht : t = t'
    · subst ht
      rw [(r t).emb.injective h']
    · exact absurd (h' ▸ hm t j : (r t').emb j' ∈ (r t).set) (Finset.disjoint_right.mp (hd t t' ht) (hm t' j'))
  refine ⟨Function.extend (fun p : (Σ t, (r t).shape.Idx) => (r p.1).emb p.2) (fun p => g p.1 p.2) fun _ => Classical.arbitrary α, fun t j => ?_⟩
  exact hinj.extend_apply (fun p : (Σ t, (r t).shape.Idx) => g p.1 p.2) _ ⟨t, j⟩

/-! ## Pieces held with whatever contents -/

/-- A view held with whatever values. -/
def anyAt {s : Shape} (c : Dev nD) (M : Memref sig .tc .vmem s .f32) : sProp 𝕄 := iprop(∃ X, hold c M fullShare X)

/-- A view seen in another shape is the same memory. -/
theorem some_squeeze (c : Dev nD) {s t : Shape} (M : Memref sig .tc .vmem s .f32) (h : s.Squeezes t) :
    (anyAt (F := F) c (M.squeeze t h) ⊢ anyAt c M) ∧ (anyAt (F := F) c M ⊢ anyAt c (M.squeeze t h)) := by
  have hs : (M.squeeze t h).view.set = M.view.set := View.set_reshape M.view _
  unfold anyAt hold owns
  constructor
  · iintro ⟨%X, %f, -, H⟩
    iexists M.view.read (Elt F) f
    iexists f
    isplitr; · ipureintro; rfl
    rw [← hs]; iexact H
  · iintro ⟨%X, %f, -, H⟩
    iexists (M.squeeze t h).view.read (Elt F) f
    iexists f
    isplitr; · ipureintro; rfl
    rw [hs]; iexact H

section Family
variable (c : Dev nD) {s : Shape} (M : Memref sig .tc .vmem s .f32) {T : Type} [Fintype T] [DecidableEq T] (r : T → Rect s)
  (hr : ∀ t a, (r t).stride a = 1) (hd : ∀ t t', t ≠ t' → Disjoint (r t).set (r t').set)
  (hcov : (Finset.univ : Finset T).biUnion (fun t => (r t).set) = Finset.univ)
include hd hcov

theorem some_split : anyAt (F := F) c M ⊢ bigSep Finset.univ fun t => anyAt c (M.slice (r t) (hr t)) := by
  unfold anyAt
  iintro ⟨%X, H⟩
  ihave H := (owns_rects (c : Thread nD τ) M fullShare r hr hd hcov X) $$ H
  have hm : (bigSep Finset.univ fun t => hold c (M.slice (r t) (hr t)) fullShare (fun j => X ((r t).emb j)))
      ⊢ bigSep Finset.univ fun t => iprop(∃ X, hold c (M.slice (r t) (hr t)) fullShare X) :=
    bigSep_mono fun t _ => show iprop(hold c (M.slice (r t) (hr t)) fullShare (fun j => X ((r t).emb j))) ⊢ iprop(∃ X, hold c (M.slice (r t) (hr t)) fullShare X) from by
      iintro H; iexists (fun j => X ((r t).emb j)); iexact H
  iapply hm
  iexact H

theorem some_join : (bigSep Finset.univ fun t => anyAt (F := F) c (M.slice (r t) (hr t))) ⊢ anyAt c M := by
  unfold anyAt
  haveI := Elt.nonempty F
  haveI : ∀ t, Nonempty (Vec F (r t).shape .f32) := fun t => ⟨fun _ => Classical.choice (Elt.nonempty F .f32)⟩
  iintro H
  ihave H := (bigSep_exists_pi Finset.univ fun t (X : Vec F (r t).shape .f32) => hold c (M.slice (r t) (hr t)) fullShare X) $$ H
  icases H with ⟨%g, H⟩
  obtain ⟨X, hX⟩ := glue_exists (Elt.nonempty F .f32) r hd g
  iexists X
  iapply (owns_of_rects (c : Thread nD τ) M fullShare r hr hd hcov X)
  iapply (Entails.of_eq (bigSep_congr fun t _ => by rw [show (fun j => X ((r t).emb j)) = g t from funext fun j => hX t j]))
  iexact H

end Family

/-! ## Lists of all indices -/

theorem sepL_cons (Φ : Res → sProp 𝕄) (a : Res) (l : List Res) : sepL Φ (a :: l) = iprop(Φ a ∗ sepL Φ l) := rfl

theorem sepL_univ (Φ : Res → sProp 𝕄) {I : Type} [Fintype I] [DecidableEq I] (f : I → Res) (l : List I) (hl : l.Nodup) (hu : l.toFinset = Finset.univ) :
    bigSep (Finset.univ : Finset I) (fun x => Φ (f x)) = sepL Φ (l.map f) := by
  rw [← hu, sepL_map Φ f l hl]

/-- All windows; all windows and slots; all ring positions and windows, but for the own position, and with it. -/
def lw : List (Fin 4) := [0, 1, 2, 3]
def lwo : List (Fin 4 × Fin 3) := lw.flatMap fun w => [(w, 0), (w, 1), (w, 2)]
def lk7 : List (Fin 7 × Fin 4) := [0, 1, 2, 3, 4, 5, 6].flatMap fun k => lw.map fun w => (k, w)
def lk8 : List (Fin 8 × Fin 4) := [0, 1, 2, 3, 4, 5, 6, 7].flatMap fun k => lw.map fun w => (k, w)

/-- The piece of a window's slot, and of a ring position's window. -/
def psR (t : Fin 4 × Fin 3) : Res := .ps t.1 t.2
def ysR (t : Fin 4 × Fin 3) : Res := .ys t.1 t.2
def ocR7 (t : Fin 7 × Fin 4) : Res := .oc t.1.succ t.2
def ocR (t : Fin 8 × Fin 4) : Res := .oc t.1 t.2
def oc0 (w : Fin 4) : Res := .oc 0 w

/-! ## The partial sum -/

variable (P : Dev nD → Vec F S4096x1024 .f32) (G : Dev nD → Vec F S1x1024 .f32)

/-- The chunks of the partial sum that the run does not touch: those of the other ring positions. -/
def keep (c : Dev nD) : sProp 𝕄 :=
  bigSep (Finset.univ.filter fun t : Fin 4 × Fin 8 × Fin 4 => ¬ t.2.1 = pp c) fun t =>
    hold c (A0.slice (partR t) (fun _ => rfl)) fullShare (fun j => P c ((partR t).emb j))

/-- The chunks of a ring position: those that leave along y, and the own one. -/
def ownIx (y : Fin 4) (q : Fin 8) : (Fin 4 × Fin 3) ⊕ Fin 4 → Fin 4 × Fin 8 × Fin 4
  | .inl t => (y + up t.2, q, t.1)
  | .inr w => (y, q, w)

theorem ownIx_inj (y : Fin 4) (q : Fin 8) : Function.Injective (ownIx y q) := by
  have h : ∀ (y : Fin 4) (a b : (Fin 4 × Fin 3) ⊕ Fin 4), ownIx y 0 a = ownIx y 0 b → a = b := by decide +kernel
  intro a b e
  refine h y a b ?_
  rcases a with ⟨w, o⟩ | w <;> rcases b with ⟨w', o'⟩ | w' <;>
    simpa only [ownIx, Prod.mk.injEq, true_and] using e

theorem ownIx_image (y : Fin 4) (q : Fin 8) :
    (Finset.univ.filter fun t : Fin 4 × Fin 8 × Fin 4 => t.2.1 = q) = Finset.univ.image (ownIx y q) := by
  revert y q; decide +kernel

theorem parts_eq (c : Dev nD) :
    (bigSep Finset.univ fun t => hold c (A0.slice (partR t) (fun _ => rfl)) fullShare (fun j => P c ((partR t).emb j)))
      = iprop(((bigSep Finset.univ fun t => res P G c (psR t)) ∗ bigSep Finset.univ fun w => res P G c (.po w)) ∗ keep P c) := by
  rw [bigSep_filter_split Finset.univ (fun t : Fin 4 × Fin 8 × Fin 4 => t.2.1 = pp c), ownIx_image (yy c) (pp c),
    bigSep_image_of_injOn (fun a _ b _ h => ownIx_inj (yy c) (pp c) h), bigSep_univ_sum]
  rfl

/-- The partial sum is its pieces beside the chunks kept. -/
theorem part_split (c : Dev nD) :
    hold c A0 fullShare (P c)
      ⊢ iprop(((bigSep Finset.univ fun t => res P G c (psR t)) ∗ bigSep Finset.univ fun w => res P G c (.po w)) ∗ keep P c) :=
  (owns_rects (c : Thread nD τ) A0 fullShare partR (fun _ _ => rfl) part_disj part_cover (P c)).trans (Entails.of_eq (parts_eq P G c))

theorem part_join (c : Dev nD) :
    iprop(((bigSep Finset.univ fun t => res P G c (psR t)) ∗ bigSep Finset.univ fun w => res P G c (.po w)) ∗ keep P c)
      ⊢ hold c A0 fullShare (P c) :=
  haveI := Elt.nonempty F
  (Entails.of_eq (parts_eq P G c).symm).trans
    (owns_of_rects (c : Thread nD τ) A0 fullShare partR (fun _ _ => rfl) part_disj part_cover (P c))

/-! ## The result and the receive buffer, before the run -/

/-- A device's places that copies write, with whatever contents. -/
def blank (c : Dev nD) : Res → sProp 𝕄
  | .ys w o => anyAt c (slotM A3 w o)
  | .oc k w => anyAt c (outC A2 (pp c + k) w)
  | _ => iprop(emp)

/-- The ring positions counted from `p`, and the windows. -/
def turnE (p : Fin 8) : Fin 8 × Fin 4 ≃ Fin 8 × Fin 4 where
  toFun t := (p + t.1, t.2)
  invFun t := (t.1 - p, t.2)
  left_inv := by revert p; decide +kernel
  right_inv := by revert p; decide +kernel

theorem result_blank (c : Dev nD) : anyAt (F := F) c A2 ⊢ bigSep Finset.univ fun t => blank (F := F) c (ocR t) :=
  (some_split c A2 outR' (fun _ _ => rfl) out_disj out_cover).trans
    (Entails.of_eq (bigSep_univ_equiv (turnE (pp c)) fun t => anyAt (F := F) c (A2.slice (outR' t) (fun _ => rfl))))

theorem slots_blank (c : Dev nD) : anyAt (F := F) c A3 ⊢ bigSep Finset.univ fun t => blank (F := F) c (ysR t) :=
  (some_split c A3 slotR (fun _ _ => rfl) slot_disj slot_cover).trans
    (bigSep_mono fun t _ => (some_squeeze c (A3.slice (slotR t) (fun _ => rfl)) squeezes_S1x1x32x1024_S32x1024).2)

theorem sigTo_r (c : Dev nD) (w : Fin 4) (s : Fin 3) : pp (sigTo (via (.r w s)) c) + kR s = pp c + (7 + kR s) := by
  revert c w s; decide +kernel
theorem sigTo_l (c : Dev nD) (w s : Fin 4) : pp (sigTo (via (.l w s)) c) + kL s = pp c + (1 + kL s) := by
  revert c w s; decide +kernel

/-- A place that a copy writes is the destination of that copy on the device it comes from. -/
theorem blank_got (c : Dev nD) (x : Xf) :
    iprop(reached ER (kcell c (.r x)) 0 ∗ blank (F := F) c (gotRes x)) = spot (F := F) (sigTo (via x) c) x := by
  unfold spot
  rw [peer_via]
  refine congrArg (fun R : sProp 𝕄 => iprop(reached ER (kcell c (.r x)) 0 ∗ R)) ?_
  cases x with
  | y w o => rfl
  | r w s =>
    show anyAt c (outC A2 (pp c + (7 + kR s)) w) = anyAt c (outC A2 (pp (sigTo (via (.r w s)) c) + kR s) w)
    rw [sigTo_r]
  | l w s =>
    show anyAt c (outC A2 (pp c + (1 + kL s)) w) = anyAt c (outC A2 (pp (sigTo (via (.l w s)) c) + kL s) w)
    rw [sigTo_l]

/-- The places that copies write, with the semaphores of their arrivals in use, are what the device's five signals
    hand over. -/
theorem blank_signals (c : Dev nD) :
    (bigSep Finset.univ fun x : Xf => iprop(reached ER (kcell c (.r x)) 0 ∗ blank (F := F) c (gotRes x))) = bigSep Finset.univ fun i : Fin 5 => barPay (F := F) (sigTo i c) i := by
  have h : ∀ i : Fin 5, barPay (F := F) (sigTo i c) i = bigSep (Finset.univ.filter fun x => via x = i) fun x => iprop(reached ER (kcell c (.r x)) 0 ∗ blank (F := F) c (gotRes x)) := fun i => by
    unfold barPay
    refine bigSep_congr fun x hx => ?_
    rw [blank_got c x, (Finset.mem_filter.mp hx).2]
  rw [bigSep_congr fun i _ => h i, ← show (Finset.univ : Finset Xf).image via = Finset.univ from by decide, ← bigSep_fiberwise (M := 𝕄) Finset.univ via]

set_option maxRecDepth 100000 in
theorem blank_take : take (allX.map gotRes ++ lw.map oc0) (lk8.map ocR ++ lwo.map ysR) = some [] := by decide +kernel

/-- The two buffers before the run: what the signals hand over, and the own rows of the result. -/
theorem blank_split (c : Dev nD) :
    iprop((bigSep Finset.univ fun x : Xf => reached ER (kcell c (.r x)) 0) ∗ anyAt (F := F) c A2 ∗ anyAt (F := F) c A3)
      ⊢ iprop((bigSep Finset.univ fun i : Fin 5 => barPay (F := F) (sigTo i c) i) ∗ bigSep Finset.univ fun w => res P G c (.raw w)) := by
  have h8 := sepL_univ (blank (F := F) c) ocR lk8 (by decide) (by decide)
  have hs := sepL_univ (blank (F := F) c) ysR lwo (by decide) (by decide)
  have h0 := sepL_univ (blank (F := F) c) oc0 lw (by decide) (by decide)
  have hx := sepL_allX (blank (F := F) c) gotRes
  have ht := sepL_take (blank (F := F) c) blank_take
  rw [sepL_append, sepL_append, ← h8, ← hs, ← h0, ← hx] at ht
  have hraw : ∀ w, blank (F := F) c (oc0 w) = res P G c (.raw w) := fun w => by
    show anyAt c (outC A2 (pp c + 0) w) = anyAt c (outC A2 (pp c) w)
    rw [pp_zero]
  iintro ⟨Hre, H2, H3⟩
  ihave H2 := (result_blank c) $$ H2
  ihave H3 := (slots_blank c) $$ H3
  ihave H := ht $$ [H2 H3]
  · isplitl [H2]; · iexact H2
    iexact H3
  icases H with ⟨⟨Hb, Hr⟩, -⟩
  isplitl [Hb Hre]
  · rw [← blank_signals, bigSep_sep']
    isplitl [Hre]; · iexact Hre
    iexact Hb
  iapply (Entails.of_eq (bigSep_congr fun w _ => hraw w))
  iexact Hr

/-! ## The result and the receive buffer, after the run -/

/-- The gathered result of a device: on each chunk the rows computed by the device at that ring position. -/
def outAll (c : Dev nD) : Vec F S1024x1024 .f32 :=
  (glue_exists (Elt.nonempty F .f32) outR' out_disj fun t => outV P G c t.1 t.2).choose

theorem outAll_at (c : Dev nD) (q : Fin 8) (w : Fin 4) (j : S32x1024.Idx) : outAll P G c ((outRect q w).emb j) = outV P G c q w j :=
  (glue_exists (Elt.nonempty F .f32) outR' out_disj fun t => outV P G c t.1 t.2).choose_spec (q, w) j

theorem result_join (c : Dev nD) : (bigSep Finset.univ fun t => res P G c (ocR t)) ⊢ hold c A2 fullShare (outAll P G c) := by
  haveI := Elt.nonempty F
  refine Entails.trans (Entails.of_eq ?_) (owns_of_rects (c : Thread nD τ) A2 fullShare outR' (fun _ _ => rfl) out_disj out_cover (outAll P G c))
  rw [bigSep_univ_equiv (turnE (pp c)) fun t => owns (c : Thread nD τ) (A2.slice (outR' t) (fun _ => rfl)) fullShare fun j => outAll P G c ((outR' t).emb j)]
  refine bigSep_congr fun t _ => ?_
  rw [show (fun j => outAll P G c ((outR' (turnE (pp c) t)).emb j)) = outV P G c (pp c + t.1) t.2 from funext fun j => outAll_at P G c (pp c + t.1) t.2 j]
  rfl

theorem slot_any (c : Dev nD) (t : Fin 4 × Fin 3) : res P G c (ysR t) ⊢ anyAt c (A3.slice (slotR t) (fun _ => rfl)) := by
  have h1 : hold c (slotM A3 t.1 t.2) fullShare (ysV P c t.1 t.2) ⊢ anyAt c (slotM A3 t.1 t.2) := by
    unfold anyAt
    exact exists_intro (PROP := sProp 𝕄) (Φ := fun X => hold c (slotM A3 t.1 t.2) fullShare X) (ysV P c t.1 t.2)
  exact h1.trans (some_squeeze c (A3.slice (slotR t) (fun _ => rfl)) squeezes_S1x1x32x1024_S32x1024).1

theorem slots_join (c : Dev nD) : (bigSep Finset.univ fun t => res P G c (ysR t)) ⊢ anyAt c A3 := by
  have h := some_join (F := F) c A3 slotR (fun _ _ => rfl) slot_disj slot_cover
  exact (bigSep_mono fun t _ => slot_any P G c t).trans h

/-- The two halves of the own rows are those rows. -/
theorem own_join (c : Dev nD) (w : Fin 4) : iprop(res P G c (.oL w) ∗ res P G c (.oR w)) ⊢ res P G c (oc0 w) := by
  show iprop(hold c (outC A2 (pp c) w) fullShare.left (ownV P G c w) ∗ hold c (outC A2 (pp c) w) fullShare.right (ownV P G c w))
    ⊢ hold c (outC A2 (pp c + 0) w) fullShare (outV P G c (pp c + 0) w)
  rw [pp_zero, outV_own]
  exact (owns_halves (c : Thread nD τ) (outC A2 (pp c) w) fullShare (ownV P G c w)).2

/-! ## The whole start and the whole end -/

/-- The pieces a device starts from, by kind. -/
def startK : List Res :=
  [0, 1, 2, 3, 4].map .sg ++ (.bw :: .ga :: (allX.map .pre ++ (allX.map .wt ++ (lwo.map psR ++ (lw.map .po ++ lw.map .raw)))))

/-- The pieces it ends with, by kind. -/
def finishK : List Res :=
  .bc :: .ga :: (allX.map .gone ++ (allX.map .rd ++ (lwo.map psR ++ (lw.map .po ++ (lwo.map ysR ++ (lw.map .oL ++ (lw.map .oR ++ lk7.map ocR7)))))))

set_option maxRecDepth 100000 in
theorem start_take : take start startK = some [] := by decide +kernel
set_option maxRecDepth 100000 in
theorem finish_take : take finishK finish = some [] := by decide +kernel
set_option maxRecDepth 100000 in
theorem out_take : take (lk8.map ocR) (lw.map oc0 ++ lk7.map ocR7) = some [] := by decide +kernel

/-- The rights a device holds before its run: to signal and to issue its copies, and to wait; the semaphores of the
    arrivals are in use. -/
def rights (c : Dev nD) : sProp 𝕄 :=
  iprop((bigSep Finset.univ fun i : Fin 5 => dutyTok ER (kcell (sigTo i c) .b) 0 i)
    ∗ res P G c .bw ∗ (bigSep Finset.univ fun x => res P G c (.pre x)) ∗ (bigSep Finset.univ fun x => res P G c (.wt x))
    ∗ bigSep Finset.univ fun x : Xf => reached ER (kcell c (.r x)) 0)

/-- From a device's buffers and rights to the pieces its run starts from. -/
theorem enter (c : Dev nD) :
    iprop(rights P G c ∗ hold c A0 fullShare (P c) ∗ hold c A1 fullShare (G c) ∗ anyAt c A2 ∗ anyAt c A3)
      ⊢ iprop(sepL (res P G c) start ∗ keep P c) := by
  have ht := sepL_take (res P G c) start_take
  unfold startK at ht
  rw [sepL_append, sepL_cons, sepL_cons, sepL_append, sepL_append, sepL_append, sepL_append, ← sepL_allX, ← sepL_allX,
    ← sepL_univ (res P G c) .sg [0, 1, 2, 3, 4] (by decide) (by decide), ← sepL_univ (res P G c) psR lwo (by decide) (by decide),
    ← sepL_univ (res P G c) .po lw (by decide) (by decide), ← sepL_univ (res P G c) .raw lw (by decide) (by decide),
    show res P G c .ga = hold c A1 fullShare (G c) from rfl] at ht
  unfold rights
  iintro ⟨⟨Htok, Hbw, Hpre, Hwt, Hre⟩, H0, H1, H2, H3⟩
  ihave H0 := (part_split P G c) $$ H0
  icases H0 with ⟨⟨Hps, Hpo⟩, Hkeep⟩
  ihave H := (blank_split P G c) $$ [Hre H2 H3]
  · isplitl [Hre]; · iexact Hre
    isplitl [H2]; · iexact H2
    iexact H3
  icases H with ⟨Hbar, Hraw⟩
  isplitr [Hkeep]
  · ihave H := ht $$ [Htok Hbw Hpre Hwt H1 Hps Hpo Hbar Hraw]
    · isplitl [Htok Hbar]
      · iapply (Entails.of_eq (bigSep_sep' Finset.univ (fun i : Fin 5 => dutyTok ER (kcell (sigTo i c) .b) 0 i) fun i => barPay (F := F) (sigTo i c) i).symm)
        isplitl [Htok]; · iexact Htok
        iexact Hbar
      isplitl [Hbw]; · iexact Hbw
      isplitl [H1]; · iexact H1
      isplitl [Hpre]; · iexact Hpre
      isplitl [Hwt]; · iexact Hwt
      isplitl [Hps]; · iexact Hps
      isplitl [Hpo]; · iexact Hpo
      iexact Hraw
    icases H with ⟨H, -⟩
    iexact H
  iexact Hkeep

/-- All semaphores of the kernel on a device, at zero. -/
def zeros (c : Dev nD) : sProp 𝕄 :=
  iprop(semVal (kcell c .b) 0 ∗ (bigSep Finset.univ fun x => semVal (kcell c (.s x)) 0) ∗ bigSep Finset.univ fun x => semVal (kcell c (.r x)) 0)

/-- From the pieces a device's run ends with to its buffers and its semaphores. -/
theorem leave (c : Dev nD) :
    iprop(sepL (res P G c) finish ∗ keep P c)
      ⊢ iprop(zeros (F := F) c ∗ hold c A0 fullShare (P c) ∗ hold c A1 fullShare (G c) ∗ hold c A2 fullShare (outAll P G c) ∗ anyAt c A3) := by
  have ht := sepL_take (res P G c) finish_take
  unfold finishK at ht
  rw [sepL_cons, sepL_cons, sepL_append, sepL_append, sepL_append, sepL_append, sepL_append, sepL_append, sepL_append, ← sepL_allX, ← sepL_allX,
    ← sepL_univ (res P G c) psR lwo (by decide) (by decide), ← sepL_univ (res P G c) .po lw (by decide) (by decide),
    ← sepL_univ (res P G c) ysR lwo (by decide) (by decide), ← sepL_univ (res P G c) .oL lw (by decide) (by decide),
    ← sepL_univ (res P G c) .oR lw (by decide) (by decide),
    show res P G c .ga = hold c A1 fullShare (G c) from rfl, show res P G c .bc = semVal (kcell c .b) 0 from rfl,
    show (bigSep Finset.univ fun x => res P G c (.gone x)) = bigSep Finset.univ fun x => semVal (kcell c (.s x)) 0 from rfl,
    show (bigSep Finset.univ fun x => res P G c (.rd x)) = bigSep Finset.univ fun x => semVal (kcell c (.r x)) 0 from rfl] at ht
  have ho := sepL_take (res P G c) out_take
  rw [sepL_append, ← sepL_univ (res P G c) ocR lk8 (by decide) (by decide), ← sepL_univ (res P G c) oc0 lw (by decide) (by decide)] at ho
  have hown : iprop((bigSep Finset.univ fun w => res P G c (.oL w)) ∗ bigSep Finset.univ fun w => res P G c (.oR w))
      ⊢ bigSep Finset.univ fun w => res P G c (oc0 w) := by
    rw [← bigSep_sep']
    exact bigSep_mono fun w _ => own_join P G c w
  unfold zeros
  iintro ⟨H, Hkeep⟩
  ihave H := ht $$ H
  icases H with ⟨⟨Hbc, Hga, Hgone, Hrd, Hps, Hpo, Hys, HL, HR, Hoc⟩, -⟩
  isplitl [Hbc Hgone Hrd]
  · isplitl [Hbc]; · iexact Hbc
    isplitl [Hgone]; · iexact Hgone
    iexact Hrd
  isplitl [Hps Hpo Hkeep]
  · iapply (part_join P G c)
    isplitl [Hps Hpo]
    · isplitl [Hps]; · iexact Hps
      iexact Hpo
    iexact Hkeep
  isplitl [Hga]; · iexact Hga
  isplitr [Hys]
  · iapply (result_join P G c)
    ihave H0 := hown $$ [HL HR]
    · isplitl [HL]; · iexact HL
      iexact HR
    ihave H := ho $$ [H0 Hoc]
    · isplitl [H0]; · iexact H0
      iexact Hoc
    icases H with ⟨H, -⟩
    iexact H
  iapply (slots_join P G c)
  iexact Hys

end Cert.KernelIdeal.Run

end
-- ==== Proof.Fund.lean ====
/- What a device has when the run starts: the credit of what the others owe it, the tokens of what it pays, its
   place at its barrier, and the right to take its copies' semaphores into use; and that all of it comes from
   semaphores at zero and what the devices owe. -/
module

public import proofs.«01_k».proof.Proof.Carve
public import Idealize.ShloMosaic.Lib.Rounds.Family

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

variable (P : Dev nD → Vec F S4096x1024 .f32) (G : Dev nD → Vec F S1x1024 .f32) (K : Dev nD × Ck → ℕ)

/-! ## The cells -/

/-- A copy's two semaphores: of its departure, of its arrival. -/
def scell : Xf ⊕ Xf → Ck
  | .inl x => .s x
  | .inr x => .r x

/-- All semaphores: the barrier and the copies'. -/
def ckE : Unit ⊕ (Xf ⊕ Xf) ≃ Ck where
  toFun | .inl _ => .b | .inr y => scell y
  invFun | .b => .inl () | .s x => .inr (.inl x) | .r x => .inr (.inr x)
  left_inv y := by rcases y with _ | _ | _ <;> rfl
  right_inv k := by cases k <;> rfl

/-- What is held for every semaphore is held for the barrier, for every departure and for every arrival. -/
theorem bigSep_Ck (Φ : Ck → sProp 𝕄) : bigSep Finset.univ Φ
    = iprop(Φ .b ∗ (bigSep Finset.univ fun x => Φ (.s x)) ∗ bigSep Finset.univ fun x => Φ (.r x)) := by
  rw [bigSep_univ_equiv ckE, bigSep_univ_sum, bigSep_univ_sum, Finset.univ_unique, bigSep_singleton]
  rfl

/-- Two families held side by side are one family of pairs. -/
theorem pair_up {I : Type} [Fintype I] (Φ Ψ : I → sProp 𝕄) :
    iprop(bigSep Finset.univ Φ ∗ bigSep Finset.univ Ψ) ⊢ bigSep Finset.univ fun i => iprop(Φ i ∗ Ψ i) :=
  Entails.of_eq (bigSep_sep' Finset.univ Φ Ψ).symm
theorem pair_off {I : Type} [Fintype I] (Φ Ψ : I → sProp 𝕄) :
    (bigSep Finset.univ fun i => iprop(Φ i ∗ Ψ i)) ⊢ iprop(bigSep Finset.univ Φ ∗ bigSep Finset.univ Ψ) :=
  Entails.of_eq (bigSep_sep' Finset.univ Φ Ψ)

theorem kcell_inj {c d : Dev nD} {k k' : Ck} (h : kcell c k = kcell d k') : c = d ∧ k = k' :=
  ⟨congrArg (fun g : GSem nD τ sig => g.1.1) h, csem_inj (congrArg Prod.snd h)⟩

/-! ## The credit -/

/-- What a step pays to a semaphore, over all devices that run it. -/
def unit (k : Ck) : Step → ℕ
  | .sig _ => if k = .b then 1 else 0
  | .send x => if k = .r x then N else 0
  | _ => 0

theorem unit_sig (k : Ck) (i : Fin 5) : unit k (.sig i) = if k = .b then 1 else 0 := rfl
theorem unit_send (k : Ck) (x : Xf) : unit k (.send x) = if k = .r x then N else 0 := rfl

/-- All devices together pay a step's amount to one device's semaphore. -/
theorem sum_pay (c : Dev nD) (k : Ck) (σ : Step) : ∑ d, pay d σ (kcell c k) () = unit k σ := by
  cases σ with
  | sig i =>
    have h (d : Dev nD) : pay d (.sig i) (kcell c k) () = if d = sigFrom i c then unit k (.sig i) else 0 := by
      unfold pay
      rw [tallyAt_apply, unit_sig]
      by_cases hd : d = sigFrom i c
      · subst hd
        by_cases hk : k = .b
        · subst hk; rw [sigTo_sigFrom, if_pos ⟨rfl, rfl⟩, if_pos rfl, if_pos rfl]
        · rw [if_neg fun e => hk (kcell_inj e.1).2, if_neg hk, if_pos rfl]
      · rw [if_neg (fun e => hd (by rw [(kcell_inj e.1).1, sigFrom_sigTo])), if_neg hd]
    rw [Finset.sum_congr rfl fun d _ => h d, Finset.sum_ite_eq' Finset.univ (sigFrom i c), if_pos (Finset.mem_univ _)]
  | send x =>
    have h (d : Dev nD) : pay d (.send x) (kcell c k) () = if d = back x c then unit k (.send x) else 0 := by
      unfold pay
      rw [tallyAt_apply, unit_send]
      by_cases hd : d = back x c
      · subst hd
        by_cases hk : k = .r x
        · subst hk; rw [peer_back, if_pos ⟨rfl, rfl⟩, if_pos rfl, if_pos rfl]
        · rw [if_neg fun e => hk (kcell_inj e.1).2, if_neg hk, if_pos rfl]
      · rw [if_neg (fun e => hd (by rw [(kcell_inj e.1).1, back_peer])), if_neg hd]
    rw [Finset.sum_congr rfl fun d _ => h d, Finset.sum_ite_eq' Finset.univ (back x c), if_pos (Finset.mem_univ _)]
  | bar => exact Finset.sum_const_zero
  | sent x => exact Finset.sum_const_zero
  | got x => exact Finset.sum_const_zero
  | comp w => exact Finset.sum_const_zero

/-- Over a list of steps they pay the sum. -/
theorem sum_owe (c : Dev nD) (k : Ck) (σs : List Step) : ∑ d, oweL d σs (kcell c k) () = (σs.map (unit k)).sum := by
  induction σs with
  | nil => exact Finset.sum_const_zero
  | cons σ σs ih =>
    rw [List.map_cons, List.sum_cons, ← sum_pay c k σ, ← ih, Nat.add_comm, ← Finset.sum_add_distrib]
    exact Finset.sum_congr rfl fun d _ => by rw [oweL, Pi.add_apply, Finsupp.add_apply]

/-- How often a step pays a semaphore. -/
def hits (k : Ck) : Step → ℕ
  | .sig _ => if k = .b then 1 else 0
  | .send x => if k = .r x then 1 else 0
  | _ => 0

theorem hits_b : (steps.map (hits .b)).sum = 5 := by decide +kernel
theorem hits_r : ∀ x, (steps.map (hits (.r x))).sum = 1 := by decide +kernel

theorem unit_b (σ : Step) : unit .b σ = hits .b σ := by
  cases σ <;> simp [unit, hits]
theorem unit_r (x : Xf) (σ : Step) : unit (.r x) σ = hits (.r x) σ * N := by
  cases σ <;> simp [unit, hits]

theorem sum_unit_b : (steps.map (unit .b)).sum = 5 := by
  rw [show unit .b = hits .b from funext unit_b, hits_b]
theorem sum_unit_r (x : Xf) : (steps.map (unit (.r x))).sum = N := by
  have h : ∀ l : List Step, (l.map (unit (.r x))).sum = (l.map (hits (.r x))).sum * N := fun l => by
    induction l with
    | nil => exact (Nat.zero_mul _).symm
    | cons σ l ih => rw [List.map_cons, List.map_cons, List.sum_cons, List.sum_cons, ih, unit_r, Nat.add_mul]
  rw [h, hits_r, Nat.one_mul]

/-- What every device owes when the run starts. -/
abbrev owe₀ (c : Dev nD) : CellTallies nD τ sig Unit := oweL c steps

theorem launch_cell (c : Dev nD) (k : Ck) :
    tallyOn (kcell c k) (launchCredit (Pipeline.owing owe₀) 0 (kcell c k))
      = (tallyAt (kcell c k) () (steps.map (unit k)).sum : CellTallies nD τ sig Unit) := by
  unfold tallyAt; refine congrArg _ (Finsupp.ext fun u => ?_); cases u
  rw [Pipeline.launchCredit_owing, Finsupp.single_eq_same, sum_owe]

/-- The credit a device starts with: the barrier's five units, and one copy's amount at every arrival. -/
def credits (c : Dev nD) : sProp 𝕄 :=
  iprop(cred (tallyAt (kcell c .b) () 5) ∗ bigSep Finset.univ fun x : Xf => cred (tallyAt (kcell c (.r x)) () N))

/-- It is what all devices together owe to its cells. -/
theorem launch_credits (c : Dev nD) : (Pipeline.launchCred owe₀ c : sProp 𝕄) ⊢ credits c := by
  have h1 : (Pipeline.launchCred owe₀ c : sProp 𝕄)
      ⊢ bigSep (Finset.univ.map ⟨csem, csem_inj⟩) fun sm : SemLoc sig =>
          (cred (tallyOn ((c : Thread nD τ), sm) (launchCredit (Pipeline.owing owe₀) 0 ((c : Thread nD τ), sm))) : sProp 𝕄) :=
    bigSep_subset (Finset.subset_univ _)
  refine h1.trans ?_
  rw [bigSep_map]
  refine (Entails.of_eq (bigSep_congr (Ψ := fun k => (cred (tallyAt (kcell c k) () (steps.map (unit k)).sum) : sProp 𝕄))
      fun k _ => congrArg cred (launch_cell c k))).trans ?_
  rw [bigSep_Ck, sum_unit_b,
    bigSep_congr (Φ := fun x => (cred (tallyAt (kcell c (.r x)) () (steps.map (unit (.r x))).sum) : sProp 𝕄))
      (fun x _ => by rw [sum_unit_r])]
  unfold credits
  iintro ⟨Hb, -, Hr⟩
  isplitl [Hb]; · iexact Hb
  iexact Hr

/-! ## The tokens -/

/-- The barriers, funded from their counters. -/
def barEmb : Dev nD ↪ GSem nD τ sig := ⟨fun c => kcell c .b, fun _ _ h => (kcell_inj h).1⟩
theorem scell_inj : Function.Injective scell := fun a b h => by
  rcases a with a | a <;> rcases b with b | b <;> cases h <;> rfl
/-- The copies' semaphores, taken into use later. -/
def cpEmb : Dev nD × (Xf ⊕ Xf) ↪ GSem nD τ sig :=
  ⟨fun p => kcell p.1 (scell p.2), fun _ _ h => Prod.ext (kcell_inj h).1 (scell_inj (kcell_inj h).2)⟩
abbrev barCells : Finset (GSem nD τ sig) := Finset.univ.map barEmb
abbrev cpCells : Finset (GSem nD τ sig) := Finset.univ.map cpEmb

theorem cells_disjoint : Disjoint barCells cpCells := by
  rw [Finset.disjoint_left]
  rintro g h₁ h₂
  obtain ⟨c, -, rfl⟩ := Finset.mem_map.mp h₁
  obtain ⟨⟨d, y⟩, -, h⟩ := Finset.mem_map.mp h₂
  rcases y with y | y <;> exact absurd (kcell_inj h).2 (by rintro ⟨⟩)

theorem cell_mem (c : Dev nD) (k : Ck) : kcell c k ∈ barCells ∪ cpCells := by
  cases k with
  | b => exact Finset.mem_union_left _ (Finset.mem_map_of_mem barEmb (Finset.mem_univ c))
  | s x => exact Finset.mem_union_right _ (Finset.mem_map_of_mem cpEmb (Finset.mem_univ (c, Sum.inl x)))
  | r x => exact Finset.mem_union_right _ (Finset.mem_map_of_mem cpEmb (Finset.mem_univ (c, Sum.inr x)))

/-- Every duty: the barrier's five, one of each departure and of each arrival. -/
def duty : Dev nD × (Fin 5 ⊕ (Xf ⊕ Xf)) → GSem nD τ sig × ℕ × Fin 5
  | (c, .inl i) => (kcell c .b, 0, i)
  | (c, .inr y) => (kcell c (scell y), 0, 0)
theorem duty_inj : Function.Injective duty := by
  rintro ⟨c, a⟩ ⟨d, b⟩ h
  have h1 := kcell_inj (c := c) (d := d) (k := match a with | .inl _ => .b | .inr y => scell y)
    (k' := match b with | .inl _ => .b | .inr y => scell y) (by
      have := congrArg Prod.fst h
      rcases a with a | a <;> rcases b with b | b <;> exact this)
  obtain ⟨rfl, hk⟩ := h1
  rcases a with a | a <;> rcases b with b | b
  · exact Prod.ext rfl (congrArg Sum.inl (congrArg (fun t : GSem nD τ sig × ℕ × Fin 5 => t.2.2) h))
  · rcases b with b | b <;> cases hk
  · rcases a with a | a <;> cases hk
  · exact Prod.ext rfl (congrArg Sum.inr (scell_inj hk))
abbrev duties : Finset (GSem nD τ sig × ℕ × Fin 5) := Finset.univ.map ⟨duty, duty_inj⟩

/-- The tokens of what a device pays: its five signals, its copies' departures, their arrivals at the peers. -/
def tokens (c : Dev nD) : sProp 𝕄 :=
  iprop((bigSep Finset.univ fun i : Fin 5 => dutyTok ER (kcell (sigTo i c) .b) 0 i)
    ∗ (bigSep Finset.univ fun x : Xf => dutyTok ER (kcell c (.s x)) 0 0)
    ∗ bigSep Finset.univ fun x : Xf => dutyTok ER (kcell (peer x c) (.r x)) 0 0)

/-- The device each signal goes to, for every device and signal at once; and the device each copy goes to. -/
def sigP : Dev nD × Fin 5 ≃ Dev nD × Fin 5 :=
  ⟨fun p => (sigTo p.2 p.1, p.2), fun p => (sigFrom p.2 p.1, p.2),
    fun p => Prod.ext (sigFrom_sigTo p.2 p.1) rfl, fun p => Prod.ext (sigTo_sigFrom p.2 p.1) rfl⟩
def peerP : Dev nD × Xf ≃ Dev nD × Xf :=
  ⟨fun p => (peer p.2 p.1, p.2), fun p => (back p.2 p.1, p.2),
    fun p => Prod.ext (back_peer p.2 p.1) rfl, fun p => Prod.ext (peer_back p.2 p.1) rfl⟩

/-- What is held for every device and signal (copy) is held for the device the signal (copy) goes to. -/
theorem to_sig (Φ : Dev nD → Fin 5 → sProp 𝕄) : (bigSep Finset.univ fun c => bigSep Finset.univ fun i => Φ c i)
    = bigSep Finset.univ fun c => bigSep Finset.univ fun i => Φ (sigTo i c) i := by
  rw [← bigSep_univ_prod (fun p : Dev nD × Fin 5 => Φ p.1 p.2), bigSep_univ_equiv sigP, bigSep_univ_prod]
  rfl
theorem to_peer (Φ : Dev nD → Xf → sProp 𝕄) : (bigSep Finset.univ fun c => bigSep Finset.univ fun x => Φ c x)
    = bigSep Finset.univ fun c => bigSep Finset.univ fun x => Φ (peer x c) x := by
  rw [← bigSep_univ_prod (fun p : Dev nD × Xf => Φ p.1 p.2), bigSep_univ_equiv peerP, bigSep_univ_prod]
  rfl

/-- The tokens of all duties, each with the device that pays. -/
theorem tokens_eq : bigSep duties (fun t => (dutyTok ER t.1 t.2.1 t.2.2 : sProp 𝕄)) = bigSep Finset.univ fun c => tokens (F := F) c := by
  rw [bigSep_map, bigSep_univ_prod]
  unfold tokens
  rw [bigSep_sep', bigSep_sep', ← to_sig (fun c i => (dutyTok ER (kcell c .b) 0 i : sProp 𝕄)),
    ← to_peer (fun c x => (dutyTok ER (kcell c (.r x)) 0 0 : sProp 𝕄)), ← bigSep_sep', ← bigSep_sep']
  refine bigSep_congr fun c _ => ?_
  rw [bigSep_univ_sum, bigSep_univ_sum]
  rfl

/-! ## What is dealt to a device -/

/-- A device's own part: its tokens, its place at its barrier, the right to take its copies' semaphores into use. -/
def linear (c : Dev nD) : sProp 𝕄 :=
  iprop(tokens (F := F) c ∗ atPos ER (kcell c .b) 0 ∅ 0 ∗ bigSep Finset.univ fun y : Xf ⊕ Xf => openTok ER (kcell c (scell y)))

/-- What a device brings to the run of its body. -/
def dealt (c : Dev nD) : sProp 𝕄 := iprop((∃ K, records P G K) ∗ linear (F := F) c ∗ credits (F := F) c)

/-- From the barriers' counters at zero and the protocol's state at launch: the records all devices share, and every
    device's own part. -/
theorem fund : iprop((bigSep Finset.univ fun c : Dev nD => (semVal (kcell c .b) 0 : sProp 𝕄)) ∗ own (ER (launchOf barCells cpCells duties)))
    ⊢ |={Set.univ}=> iprop((∃ K, records P G K) ∗ bigSep Finset.univ fun c => linear (F := F) c) := by
  have hv : bigSep Finset.univ (fun c : Dev nD => (semVal (kcell c .b) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (kcell c .b) 0 ∅ 0 : sProp 𝕄)) :=
    Entails.of_eq (bigSep_map (s := Finset.univ) barEmb (Φ := fun g : GSem nD τ sig => (atPos ER g 0 ∅ 0 : sProp 𝕄)))
  have hre : bigSep barCells (fun g => (reached ER g 0 : sProp 𝕄)) ⊢ bigSep Finset.univ (fun c : Dev nD => (reached ER (kcell c .b) 0 : sProp 𝕄)) :=
    Entails.of_eq (bigSep_map (s := Finset.univ) barEmb (Φ := fun g : GSem nD τ sig => (reached ER g 0 : sProp 𝕄)))
  have hop : bigSep cpCells (fun g => (openTok ER g : sProp 𝕄))
      ⊢ bigSep Finset.univ (fun c : Dev nD => bigSep Finset.univ fun y : Xf ⊕ Xf => (openTok ER (kcell c (scell y)) : sProp 𝕄)) :=
    Entails.of_eq (by rw [bigSep_map, bigSep_univ_prod]; rfl)
  have hinv (κ : GSem nD τ sig → ℕ) : (bigSep (barCells ∪ cpCells) fun g => (cellInv ER (sched (F := F) P G) (κ g) g : sProp 𝕄))
      ⊢ bigSep Finset.univ fun p : Dev nD × Ck => cellInv ER (sched (F := F) P G) (κ (kcell p.1 p.2)) (kcell p.1 p.2) :=
    bigSep_intro_persistent fun p _ => bigSep_elim (cell_mem p.1 p.2)
  iintro ⟨Hv, Hu⟩
  imod (Rounds.fund_launch ER (sched (F := F) P G) cells_disjoint (fun g _ h => h) duties) $$ [Hv Hu] with ⟨%κ, -, #Hinv, #Hr, Hat, Hopen, Htok⟩
  · isplitl [Hv]; · iapply hv $$ Hv
    iexact Hu
  imodintro
  isplitr
  · iexists fun p => κ (kcell p.1 p.2)
    unfold records
    isplitr; · iapply (hinv κ); iexact Hinv
    iapply hre; iexact Hr
  unfold linear
  iapply (pair_up _ _); isplitl [Htok]
  · iapply (Entails.of_eq (tokens_eq (F := F))) $$ Htok
  iapply (pair_up _ _); isplitl [Hat]; · iapply hat $$ Hat
  iapply hop $$ Hopen

/-- The kernel's own semaphores. -/
def osem (y : Xf ⊕ Xf) : SemLoc sig := csem (scell y)

/-- Taking the copies' semaphores, at zero, into use: a device is ready for its body. -/
theorem ready (c : Dev nD) : iprop(dealt P G c ∗ Pipeline.ownSems0 osem c ∗ levAts L lv)
    ⊢ (|={Set.univ}=> iprop((∃ K, records P G K) ∗ rights P G c ∗ levAts L lv) : sProp 𝕄) := by
  unfold dealt linear tokens credits rights Pipeline.ownSems0
  iintro ⟨⟨⟨%K, #Hrec⟩, ⟨⟨Hts, Htd, Hta⟩, Hat, Hopen⟩, Hcb, Hcr⟩, Hz, #Hlev⟩
  imod (Rounds.cells_open ER (sched (F := F) P G) (Finset.univ : Finset (Xf ⊕ Xf)) (fun y => kcell c (scell y)) (fun y => K (c, scell y))
    (Es := Set.univ) fun _ _ => Set.mem_univ _) $$ [Hopen Hz] with H
  · isplitl [Hopen]
    · iapply (pair_up _ _); isplitr
      · iapply (bigSep_intro_persistent (S := Finset.univ) fun (y : Xf ⊕ Xf) _ => records_at P G K c (scell y)); iexact Hrec
      iexact Hopen
    iexact Hz
  ihave H := (show _ ⊢ iprop((bigSep Finset.univ fun x : Xf => iprop(atPos ER (kcell c (.s x)) 0 ∅ 0 ∗ reached ER (kcell c (.s x)) 0))
      ∗ bigSep Finset.univ fun x : Xf => iprop(atPos ER (kcell c (.r x)) 0 ∅ 0 ∗ reached ER (kcell c (.r x)) 0))
    from Entails.of_eq (bigSep_univ_sum _)) $$ H
  icases H with ⟨Hs, Hr⟩
  ihave Hs := (pair_off _ _) $$ Hs; icases Hs with ⟨Hsa, Hsr⟩
  ihave Hr := (pair_off _ _) $$ Hr; icases Hr with ⟨Hra, Hrr⟩
  imodintro
  isplitr; · iexists K; iexact Hrec
  isplitr []
  · isplitl [Hts]; · iexact Hts
    isplitl [Hcb Hat]
    · rw [show res P G c .bw = iprop(cred (tallyAt (kcell c .b) () 5) ∗ atPos ER (kcell c .b) 0 ∅ 0) from rfl]
      isplitl [Hcb]; · iexact Hcb
      iexact Hat
    isplitl [Htd Hta Hsa Hsr]
    · rw [bigSep_congr (Φ := fun x => res P G c (.pre x)) (fun x _ => (show res P G c (.pre x) = iprop(dutyTok ER (kcell c (.s x)) 0 0
        ∗ dutyTok ER (kcell (peer x c) (.r x)) 0 0 ∗ atPos ER (kcell c (.s x)) 0 ∅ 0 ∗ reached ER (kcell c (.s x)) 0) from rfl))]
      iapply (pair_up _ _); isplitl [Htd]; · iexact Htd
      iapply (pair_up _ _); isplitl [Hta]; · iexact Hta
      iapply (pair_up _ _); isplitl [Hsa]; · iexact Hsa
      iexact Hsr
    isplitl [Hcr Hra]
    · rw [bigSep_congr (Φ := fun x => res P G c (.wt x)) (fun x _ => (show res P G c (.wt x)
        = iprop(cred (tallyAt (kcell c (.r x)) () N) ∗ atPos ER (kcell c (.r x)) 0 ∅ 0) from rfl))]
      iapply (pair_up _ _); isplitl [Hcr]; · iexact Hcr
      iexact Hra
    iexact Hrr
  iexact Hlev

end Cert.KernelIdeal.Run

end
-- ==== Proof.Rules.lean ====
/- What each step of the body does to the pieces a device holds: one rule for each kind of step, and the run of
   a list of steps from them. -/
module

public import proofs.«01_k».proof.Proof.Held
public import Idealize.ShloMosaic.Lib.Pipeline.Value
public import Idealize.ShloMosaic.Lib.MemrefSat

@[expose] public section

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Cert.KernelIdeal.Gen

variable {F : FTy → Type} [FloatOps F]

local notation "𝕄" => MT nD τ sig Unit (Elt F) ℕ UU ℕ

abbrev 𝒱₀ : Variants := Variants.none

variable (P : Dev nD → Vec F S4096x1024 .f32) (G : Dev nD → Vec F S1x1024 .f32) (K : Dev nD × Ck → ℕ)

/-- The weakest precondition of a program of device `c`'s core. -/
abbrev wpc (c : Dev nD) (p : Pr F) (Q : PUnit → sProp 𝕄) : sProp 𝕄 :=
  wp frame (wpE (defs₀ (F := F)) 𝒱₀ (c : Thread nD τ) none) Set.univ p Q

theorem oweL_free (c : Dev nD) (σ : Step) (σs : List Step) (h : pay c σ = 0) : oweL c (σ :: σs) = oweL c σs := by
  rw [oweL, h, add_zero]

/-! ## Waiting -/

/-- Waiting for the one round of an own cell: the round's payloads, and the cell's counter back at zero. -/
theorem wait_cell (c : Dev nD) (k : Ck) (σs : List Step) (n : ℕ) {w : TpuEff nD τ sig (Elt F) Λ₀ .tc PUnit}
    (hw : ∀ Q : PUnit → sProp 𝕄, wpE (defs₀ (F := F)) 𝒱₀ (c : Thread nD τ) none Set.univ w Q = waitSpec (c : Thread nD τ) Set.univ (csem k) n Q)
    (hn : (sched (F := F) P G).expect (kcell c k) 0 = n) (ha : above (rank k) σs = true)
    (kk : PUnit → Pr F) (Q : PUnit → sProp 𝕄) :
    iprop(records P G K ∗ levAts L lv ∗ cred (tallyAt (kcell c k) () n) ∗ atPos ER (kcell c k) 0 ∅ 0 ∗ ow c σs)
      ⊢ iprop(((semVal (kcell c k) 0
              ∗ bigSep ((sched (F := F) P G).duties (kcell c k) 0 \ ∅) (fun d => (sched (F := F) P G).payload (kcell c k) 0 d)
              ∗ ow c σs) -∗ wpc c (kk ⟨⟩) Q)
          -∗ wpc c (.op w kk) Q) := by
  iintro ⟨#Hrec, #Hlev, Hcr, Hat, Ho⟩ Hk
  unfold ow
  icases Ho with ⟨%W, HO⟩
  ihave #HI := (records_at P G K c k) $$ Hrec
  iapply (Rounds.wp_wait_rest_token 𝒱₀ ER (sched P G) (c : Thread nD τ) none (κ := K (c, k)) (sm := csem k)
      hw (Set.mem_univ _) () (O := oweL c σs) (W := W) (R := 0) (m := 0) (T := ∅)
      (by rw [Nat.zero_add]; exact hn.symm)) $$ [Hcr HO Hat]
  · isplitr; · iexact HI
    isplitl [Hcr]; · iexact Hcr
    isplitl [HO]; · iexact HO
    isplitr; · iapply (mayWait c (csem k) (rank k) (le_of_eq (lv_kcell c k)) σs ha); iexact Hlev
    iexact Hat
  iintro ⟨HO, Hat, -, Hpay⟩
  imod (Rounds.cell_close ER (sched P G) (Set.mem_univ (K (c, k))) (fun h => h) (R := 0 + 1) (duties_later P G (kcell c k))) $$ [Hat] with Hz
  · isplitr; · iexact HI
    iexact Hat
  iapply Hk
  isplitl [Hz]; · iexact Hz
  isplitl [Hpay]; · iexact Hpay
  iexists _; iexact HO

/-! ## The rule of a step -/

/-- A step takes its pieces, and returns its own. -/
def Rule (c : Dev nD) (σ : Step) : Prop :=
  ∀ (σs : List Step), above (wrank σ) σs = true → ∀ (kk : PUnit → Pr F) (Q : PUnit → sProp 𝕄),
    iprop(records P G K ∗ levAts L lv ∗ sepL (res P G c) (need σ) ∗ ow c (σ :: σs))
      ⊢ iprop(((sepL (res P G c) (gain σ) ∗ ow c σs) -∗ wpc c (kk ⟨⟩) Q)
          -∗ wpc c (den A0 A1 A2 A3 c σ >>= kk) Q)

theorem rule_bar (c : Dev nD) : Rule P G K c .bar := by
  intro σs ha kk Q
  have hw := wait_cell P G K c .b σs 5 (w := .semWait barS 5) (wpE_semWait_eq 𝒱₀ (c : Thread nD τ) none Set.univ) (expect_b P G c) ha kk Q
  rw [rest_b, show bigSep Finset.univ (fun x : Xf => spot (F := F) c x) = sepL (res P G c) (allX.map .gr) from
    sepL_allX (res P G c) Res.gr] at hw
  have e : ow (F := F) c (.bar :: σs) = ow c σs := by unfold ow; rw [oweL_free c .bar σs rfl]
  rw [e]
  iintro ⟨#Hrec, #Hlev, Hn, Ho⟩ Hk
  simp only [need, sepL, res]
  icases Hn with ⟨⟨Hcr, Hat⟩, -⟩
  iapply hw $$ [Hcr Hat Ho]
  · isplitr; · iexact Hrec
    isplitr; · iexact Hlev
    isplitl [Hcr]; · iexact Hcr
    isplitl [Hat]; · iexact Hat
    iexact Ho
  iintro ⟨Hz, Hg, Ho⟩
  iapply Hk
  isplitr [Ho]
  · rw [show sepL (res P G c) (gain .bar) = iprop(semVal (kcell c .b) 0 ∗ sepL (res P G c) (allX.map .gr)) from rfl]
    isplitl [Hz]; · iexact Hz
    iexact Hg
  iexact Ho

/-- The wait for a departure waits on the copy's send semaphore for one copy's credit. -/
theorem den_sent (c : Dev nD) (x : Xf) : ∃ w : TpuEff nD τ sig (Elt F) Λ₀ .tc PUnit, den A0 A1 A2 A3 c (.sent x) = Prog.lift w
    ∧ ∀ Q : PUnit → sProp 𝕄, wpE (defs₀ (F := F)) 𝒱₀ (c : Thread nD τ) none Set.univ w Q = waitSpec (c : Thread nD τ) Set.univ (csem (.s x)) N Q := by
  cases x <;> exact ⟨_, rfl, fun Q => rfl⟩

/-- The wait for an arrival waits on the copy's receive semaphore for one copy's credit. -/
theorem den_got (c : Dev nD) (x : Xf) : ∃ w : TpuEff nD τ sig (Elt F) Λ₀ .tc PUnit, den A0 A1 A2 A3 c (.got x) = Prog.lift w
    ∧ ∀ Q : PUnit → sProp 𝕄, wpE (defs₀ (F := F)) 𝒱₀ (c : Thread nD τ) none Set.univ w Q = waitSpec (c : Thread nD τ) Set.univ (csem (.r x)) N Q := by
  cases x <;> exact ⟨_, rfl, fun Q => rfl⟩

theorem rule_sent (c : Dev nD) (x : Xf) : Rule P G K c (.sent x) := by
  intro σs ha kk Q
  obtain ⟨w, hd, hs⟩ := den_sent (F := F) c x
  have hw := wait_cell P G K c (.s x) σs N (w := w) hs (expect_s P G c x) ha kk Q
  rw [rest_s, ← res_src] at hw
  have e : ow (F := F) c (.sent x :: σs) = ow c σs := by unfold ow; rw [oweL_free c (.sent x) σs rfl]
  rw [e, hd]
  simp only [Prog.lift, Prog.bind_op, Prog.bind_ret]
  rw [show sepL (res P G c) (need (.sent x)) = iprop((cred (tallyAt (kcell c (.s x)) () N) ∗ atPos ER (kcell c (.s x)) 0 ∅ 0) ∗ emp) from rfl,
    show sepL (res P G c) (gain (.sent x)) = iprop(semVal (kcell c (.s x)) 0 ∗ res P G c (srcRes x) ∗ emp) from rfl]
  iintro ⟨#Hrec, #Hlev, Hn, Ho⟩ Hk
  icases Hn with ⟨⟨Hcr, Hat⟩, -⟩
  iapply hw $$ [Hcr Hat Ho]
  · isplitr; · iexact Hrec
    isplitr; · iexact Hlev
    isplitl [Hcr]; · iexact Hcr
    isplitl [Hat]; · iexact Hat
    iexact Ho
  iintro ⟨Hz, Hg, Ho⟩
  iapply Hk
  isplitr [Ho]
  · isplitl [Hz]; · iexact Hz
    isplitl [Hg]; · iexact Hg
    iempintro
  iexact Ho

theorem rule_got (c : Dev nD) (x : Xf) : Rule P G K c (.got x) := by
  intro σs ha kk Q
  obtain ⟨w, hd, hs⟩ := den_got (F := F) c x
  have hw := wait_cell P G K c (.r x) σs N (w := w) hs (expect_r P G c x) ha kk Q
  rw [rest_r, ← res_got] at hw
  have e : ow (F := F) c (.got x :: σs) = ow c σs := by unfold ow; rw [oweL_free c (.got x) σs rfl]
  rw [e, hd]
  simp only [Prog.lift, Prog.bind_op, Prog.bind_ret]
  rw [show sepL (res P G c) (need (.got x)) = iprop((cred (tallyAt (kcell c (.r x)) () N) ∗ atPos ER (kcell c (.r x)) 0 ∅ 0) ∗ emp) from rfl,
    show sepL (res P G c) (gain (.got x)) = iprop(semVal (kcell c (.r x)) 0 ∗ res P G c (gotRes x) ∗ emp) from rfl]
  iintro ⟨#Hrec, #Hlev, Hn, Ho⟩ Hk
  icases Hn with ⟨⟨Hcr, Hat⟩, -⟩
  iapply hw $$ [Hcr Hat Ho]
  · isplitr; · iexact Hrec
    isplitr; · iexact Hlev
    isplitl [Hcr]; · iexact Hcr
    isplitl [Hat]; · iexact Hat
    iexact Ho
  iintro ⟨Hz, Hg, Ho⟩
  iapply Hk
  isplitr [Ho]
  · isplitl [Hz]; · iexact Hz
    isplitl [Hg]; · iexact Hg
    iempintro
  iexact Ho

/-! ## Signals and copies -/

theorem rule_sig (c : Dev nD) (i : Fin 5) : Rule P G K c (.sig i) := by
  intro σs ha kk Q
  rw [show (den A0 A1 A2 A3 c (.sig i) : Pr F) = semSignalWord (sigDev i c) barS 1#32 from rfl, sigDev_eq]
  simp only [semSignalWord, Prog.bind_op, Prog.bind_ret]
  iintro ⟨#Hrec, #Hlev, Hn, Ho⟩ Hk
  simp only [need, gain, sepL, res]
  icases Hn with ⟨⟨Htok, Hpay⟩, -⟩
  unfold ow
  icases Ho with ⟨%W, HO⟩
  ihave #HI := (records_at P G K (sigTo i c) .b) $$ Hrec
  ihave #Hre := (records_b P G K (sigTo i c)) $$ Hrec
  iapply (Rounds.wp_signal 𝒱₀ ER (sched P G) (c : Thread nD τ) none (dst := (sigTo i c : Thread nD τ)) (sem := barS) (κ := K (sigTo i c, .b))
      (d := i) (r := 0) (by rw [show ((((sigTo i c : Dev nD) : Thread nD τ), SemLoc.reg barS) : GSem nD τ sig) = kcell (sigTo i c) .b from rfl, duties_b]; exact Finset.mem_univ _)
      ((amount_b P G (sigTo i c) i).trans (by decide)) () (oweL c σs) rfl (W := W))
    $$ [HO Htok Hpay]
  · isplitr; · iexact HI
    isplitl [HO]; · iexact HO
    isplitl [Htok]; · iexact Htok
    isplitl [Hpay]
    · rw [show ((((sigTo i c : Dev nD) : Thread nD τ), SemLoc.reg barS) : GSem nD τ sig) = kcell (sigTo i c) .b from rfl, payload_b]; iexact Hpay
    iexact Hre
  iintro HO
  iapply Hk
  isplitr [HO]; · iempintro
  iexists W; iexact HO

/-- A copy's program depends on its two views and its peer only. -/
theorem send_congr {M M' D D' : Memref sig .tc .vmem S32x1024 .f32} {e e' : Dev nD} (hM : M = M') (hD : D = D') (he : e = e')
    {a b : DmaSem sig} (hsc : (D : Memref sig (Dev.tc e : Thread nD τ).2.kind .vmem S32x1024 .f32).view.ref.isScScratch = false) (hsrc : M.view.WordExact)
    (hdst : (D : Memref sig (Dev.tc e : Thread nD τ).2.kind .vmem S32x1024 .f32).view.WordExact)
    (hsem : DmaTarget.Typed .vmem (.dma b) (.remote (Dev.tc e : Thread nD τ) D (.dma a) hsc)) :
    ∃ hsc' hsrc' hdst' hsem', (Prog.lift (.enqueueDma M (.remote (Dev.tc e) D (.dma a) hsc) (.dma b) hsrc hdst hsem) : Pr F)
      = Prog.lift (.enqueueDma M' (.remote (Dev.tc e') D' (.dma a) hsc') (.dma b) hsrc' hdst' hsem') := by
  subst hM hD he
  exact ⟨_, _, _, _, rfl⟩

/-- A copy in terms of what it reads, where it goes and what it signals. -/
theorem den_send (c : Dev nD) (x : Xf) : ∃ hsc hsrc hdst hsem, (den A0 A1 A2 A3 c (.send x) : Pr F)
    = Prog.lift (.enqueueDma (srcM x c) (.remote (Dev.tc (peer x c)) (dstM x c) (.dma (sSem x)) hsc) (.dma (rSem x)) hsrc hdst hsem) := by
  cases x with
  | y w o => exact send_congr (partM_eq A0 c w o) rfl (xDev_eq _ c) _ _ _ _
  | r w s => exact send_congr (outR_eq A2 c w s) (outR_eq A2 c w s) (xDev_eq _ c) _ _ _ _
  | l w s => exact send_congr (outL_eq A2 c w s) (outL_eq A2 c w s) (xDev_eq _ c) _ _ _ _

theorem rule_send (c : Dev nD) (x : Xf) : Rule P G K c (.send x) := by
  intro σs ha kk Q
  obtain ⟨hsc, hsrc, hdst, hsem, hd⟩ := den_send (F := F) c x
  rw [hd]
  simp only [Prog.lift, Prog.bind_op, Prog.bind_ret]
  iintro ⟨#Hrec, #Hlev, Hn, Ho⟩ Hk
  simp only [need, gain, sepL, res_src]
  simp only [res]
  unfold spot srcPay hold owns
  icases Hn with ⟨⟨Hts, Htr, Hat, #Hrs⟩, ⟨#Hrr, %X, %fd, -, Hdst⟩, ⟨%fs, %hfs, Hsrc⟩, -⟩
  unfold ow
  icases Ho with ⟨%W, HO⟩
  ihave #HIs := (records_at P G K c (.s x)) $$ Hrec
  ihave #HIr := (records_at P G K (peer x c) (.r x)) $$ Hrec
  iapply (Rounds.wp_send_pointsTo 𝒱₀ ER (sched P G) (c : Thread nD τ) none (c' := (peer x c : Thread nD τ)) (sS := csem (.s x)) (sem := csem (.r x))
      (κ₁ := K (c, .s x)) (κ₂ := K (peer x c, .r x)) (r₁ := 0) (r₂ := 0) (d₁ := (0 : Fin 5)) (d₂ := (0 : Fin 5)) (fd := fd) (fs := fs) (q := shr x)
      (src := srcM x c) (dst := dstM x c)
      (by rw [duties_s]; exact Finset.mem_singleton_self _) (by rw [duties_r]; exact Finset.mem_singleton_self _)
      () () N (credit_dst x c) (amount_s P G c x 0) (amount_r P G (peer x c) x 0) (oweL c σs) rfl (W := W)
      (by
        rw [payload_s]; unfold srcPay hold owns
        iintro H; iexists fs; isplitr; · ipureintro; exact hfs
        iexact H)
      (by
        rw [payload_r]; unfold dstPay; rw [back_peer]; unfold hold owns
        iintro H; iexists (dstM x c).view.write (Elt F) fd ((srcM x c).view.read (Elt F) fs) Finset.univ; isplitr
        · ipureintro; exact (View.read_write_univ _ _).trans hfs
        iexact H)) $$ [HO Hts Htr Hsrc Hdst]
  · isplitr; · iexact HIs
    isplitr; · iexact HIr
    isplitl [Hsrc]; · iexact Hsrc
    isplitl [Hdst]; · iexact Hdst
    isplitl [HO]; · iexact HO
    isplitl [Hts]; · iexact Hts
    isplitr; · iexact Hrs
    isplitl [Htr]; · iexact Htr
    iexact Hrr
  iintro ⟨Hcr, HO⟩
  iapply Hk
  isplitr [HO]
  · isplitl [Hcr Hat]
    · isplitl [Hcr]; · iexact Hcr
      iexact Hat
    iempintro
  iexists W; iexact HO

/-! ## The computation -/

/-- Loading a rectangle of a buffer whose slice there is held reads the values held. -/
theorem load_slice (c : Dev nD) {s : Shape} (M : Memref sig .tc .vmem s .f32) (r : Rect s) (hr : ∀ a, r.stride a = 1) (q : PosShare TreeShare)
    (X : Vec F r.shape .f32) {hl : M.view.LoadsAt r.toLoadRect} (kk : Vec F r.shape .f32 → Pr F) (Q : PUnit → sProp 𝕄) :
    hold c (M.slice r hr) q X
      ⊢ iprop((hold c (M.slice r hr) q X -∗ wpc c (kk X) Q) -∗ wpc c (.op (.load M r.toLoadRect hl) kk) Q) := by
  unfold hold owns
  iintro ⟨%f, %hf, H⟩ Hk
  iapply (wp_load 𝒱₀ (c : Thread nD τ) none Set.univ (m := M) (r := r.toLoadRect) (hl := hl) (S := (M.slice r hr).view.set)
    (Finset.subset_of_eq (View.set_slice M.view r).symm)) $$ H
  iintro H
  rw [show M.view.readAt (Elt F) r.toLoadRect f = X from hf]
  iapply Hk
  iexists f
  isplitr; · ipureintro; exact hf
  iexact H

/-- The same for a slice seen as a matrix: the load reads the values held, in the slice's own shape. -/
theorem load_squeeze (c : Dev nD) {s t : Shape} (M : Memref sig .tc .vmem s .f32) (r : Rect s) (hr : ∀ a, r.stride a = 1) (hq : r.shape.Squeezes t)
    (hc : t.ShapeCasts r.shape) (hc' : r.shape.ShapeCasts t) (q : PosShare TreeShare)
    (X : Vec F t .f32) {hl : M.view.LoadsAt r.toLoadRect} (kk : Vec F r.shape .f32 → Pr F) (Q : PUnit → sProp 𝕄) :
    hold c ((M.slice r hr).squeeze t hq) q X
      ⊢ iprop((hold c ((M.slice r hr).squeeze t hq) q X -∗ wpc c (kk (shapeCast r.shape X hc)) Q) -∗ wpc c (.op (.load M r.toLoadRect hl) kk) Q) := by
  unfold hold owns
  iintro ⟨%f, %hf, H⟩ Hk
  iapply (wp_load 𝒱₀ (c : Thread nD τ) none Set.univ (m := M) (r := r.toLoadRect) (hl := hl) (S := ((M.slice r hr).squeeze t hq).view.set)
    (Finset.subset_of_eq ((View.set_slice M.view r).symm.trans (View.set_reshape (M.view.slice r) _).symm))) $$ H
  iintro H
  rw [show M.view.readAt (Elt F) r.toLoadRect f = shapeCast r.shape X hc from by
    rw [← hf, Memref.read_squeeze_slice M r hr hq hc' f, shapeCast_shapeCast]]
  iapply Hk
  iexists f
  isplitr; · ipureintro; exact hf
  iexact H

/-- Storing through a rectangle of a buffer whose slice there is held whole leaves it holding the values stored. -/
theorem store_slice (c : Dev nD) {s : Shape} (M : Memref sig .tc .vmem s .f32) (r : Rect s) (hr : ∀ a, r.stride a = 1)
    (X Y : Vec F r.shape .f32) {hx : (M.access r).Stores Finset.univ} {hm : (Finset.univ : Finset r.shape.Idx) = Finset.univ ∨ ∀ a, r.stride a = 1}
    (kk : PUnit → Pr F) (Q : PUnit → sProp 𝕄) :
    hold c (M.slice r hr) fullShare X
      ⊢ iprop((hold c (M.slice r hr) fullShare Y -∗ wpc c (kk ⟨⟩) Q) -∗ wpc c (.op (.store M r Y Finset.univ hx hm) kk) Q) := by
  unfold hold owns
  iintro ⟨%f, %hf, H⟩ Hk
  iapply (wp_store 𝒱₀ (c : Thread nD τ) none Set.univ (m := M) (r := r) (w := Y) (Mk := Finset.univ) (hx := hx) (hm := hm) (S := (M.slice r hr).view.set)
    (f := f) (Finset.Subset.refl _)) $$ H
  iintro H
  iapply Hk
  iexists (M.access r).write (Elt F) f Y Finset.univ
  isplitr; · ipureintro; exact View.read_write_univ _ _
  iexact H

/-- The computation of a window, its two row offsets given. -/
def compAt (w : Fin 4) (o₂ : Fin 2 → ℕ) (h₂ : ∀ a, o₂ a + S32x1024.size a ≤ S4096x1024.size a)
    (o₃ : Fin 2 → ℕ) (h₃ : ∀ a, o₃ a + S32x1024.size a ≤ S1024x1024.size a) : Pr F := do
  let own : Vec F S32x1024 .f32 ← Prog.lift (.load A0 (Rect.unit (s := S4096x1024) o₂ S32x1024.size h₂).toLoadRect (View.loadsAt_vmem h_S32x1024))
  let y0 : Vec F S1x1x32x1024 .f32 ← Prog.lift (.load A3 (slotRect w 0).toLoadRect (View.loadsAt_vmem h_S1x1x32x1024))
  let y1 : Vec F S1x1x32x1024 .f32 ← Prog.lift (.load A3 (slotRect w 1).toLoadRect (View.loadsAt_vmem h_S1x1x32x1024))
  let y2 : Vec F S1x1x32x1024 .f32 ← Prog.lift (.load A3 (slotRect w 2).toLoadRect (View.loadsAt_vmem h_S1x1x32x1024))
  let g : Vec F S1x1024 .f32 ← Prog.lift (.load A1 (Rect.unit (s := S1x1024) ![0, 0] S1x1024.size inb_S1x1024_S1x1024_0_0).toLoadRect (View.loadsAt_vmem h_S1x1024))
  let _o : Vec F S32x1024 .f32 ← Prog.lift (.load A2 (Rect.unit (s := S1024x1024) o₃ S32x1024.size h₃).toLoadRect (View.loadsAt_vmem h_S32x1024))
  Prog.lift (.store A2 (Rect.unit (s := S1024x1024) o₃ S32x1024.size h₃) (blk own y0 y1 y2 g) Finset.univ (View.stores_vmem_bits_univ h_S32x1024 rfl) (.inl rfl))

theorem compAt_congr (w : Fin 4) {o₂ o₂' : Fin 2 → ℕ} (e₂ : o₂ = o₂') (h₂ : ∀ a, o₂ a + S32x1024.size a ≤ S4096x1024.size a)
    (h₂' : ∀ a, o₂' a + S32x1024.size a ≤ S4096x1024.size a) {o₃ o₃' : Fin 2 → ℕ} (e₃ : o₃ = o₃')
    (h₃ : ∀ a, o₃ a + S32x1024.size a ≤ S1024x1024.size a) (h₃' : ∀ a, o₃' a + S32x1024.size a ≤ S1024x1024.size a) :
    (compAt w o₂ h₂ o₃ h₃ : Pr F) = compAt w o₂' h₂' o₃' h₃' := by
  subst e₂ e₃; rfl

theorem zero_off : (![0, 0] : Fin 2 → ℕ) = fun _ => 0 := funext fun a => by fin_cases a <;> rfl

/-- Loading the whole scale reads the values held. -/
theorem load_scale (c : Dev nD) (X : Vec F S1x1024 .f32) {hl : A1.view.LoadsAt (Rect.unit (s := S1x1024) ![0, 0] S1x1024.size inb_S1x1024_S1x1024_0_0).toLoadRect}
    (kk : Vec F S1x1024 .f32 → Pr F) (Q : PUnit → sProp 𝕄) :
    hold c A1 fullShare X
      ⊢ iprop((hold c A1 fullShare X -∗ wpc c (kk X) Q)
        -∗ wpc c (.op (.load A1 (Rect.unit (s := S1x1024) ![0, 0] S1x1024.size inb_S1x1024_S1x1024_0_0).toLoadRect hl) kk) Q) := by
  unfold hold owns
  iintro ⟨%f, %hf, H⟩ Hk
  have hf' : f = X := (View.read_whole (Val := Elt F) cc0_stg1_0 f).symm.trans hf
  subst hf'
  iapply (wp_load 𝒱₀ (c : Thread nD τ) none Set.univ (m := A1) (by rw [View.set_whole]; exact Finset.subset_univ _)) $$ H
  iintro H
  rw [show A1.view.readAt (Elt F) (Rect.unit (s := S1x1024) ![0, 0] S1x1024.size inb_S1x1024_S1x1024_0_0).toLoadRect f = f from
    Memref.readAt_unit_zero (Elt F) cc0_stg1_0 zero_off _ f]
  iapply Hk
  iexists f
  isplitr; · ipureintro; exact hf
  iexact H

/-- A slot of the receive buffer, loaded in its own shape. -/
theorem load_slot (c : Dev nD) (w : Fin 4) (o : Fin 3) (X : Vec F S32x1024 .f32) {hl : A3.view.LoadsAt (slotRect w o).toLoadRect}
    (kk : Vec F S1x1x32x1024 .f32 → Pr F) (Q : PUnit → sProp 𝕄) :
    hold c (slotM A3 w o) fullShare X
      ⊢ iprop((hold c (slotM A3 w o) fullShare X -∗ wpc c (kk (shapeCast S1x1x32x1024 X shapeCasts_S1x1x32x1024_S32x1024.symm)) Q) -∗ wpc c (.op (.load A3 (slotRect w o).toLoadRect hl) kk) Q) :=
  load_squeeze c A3 (slotRect w o) (fun _ => rfl) squeezes_S1x1x32x1024_S32x1024 shapeCasts_S1x1x32x1024_S32x1024.symm shapeCasts_S1x1x32x1024_S32x1024 fullShare X kk Q

/-- What a window's computation stores, in terms of the rows it loaded. -/
theorem blk_own (c : Dev nD) (w : Fin 4) (h : S32x1024.ShapeCasts S1x1x32x1024) :
    blk (partV P c (yy c) (pp c) w) (shapeCast S1x1x32x1024 (ysV P c w 0) h) (shapeCast S1x1x32x1024 (ysV P c w 1) h)
      (shapeCast S1x1x32x1024 (ysV P c w 2) h) (G c) = ownV P G c w := rfl

theorem rule_comp (c : Dev nD) (w : Fin 4) : Rule P G K c (.comp w) := by
  intro σs ha kk Q
  have e : ow (F := F) c (.comp w :: σs) = ow c σs := by unfold ow; rw [oweL_free c (.comp w) σs rfl]
  rw [e, show (den A0 A1 A2 A3 c (.comp w) : Pr F) = compAt w (k0_off2 c (winW w)) (k0_off2_inb c w) (k0_off3 c (winW w)) (k0_off3_inb c w) from rfl,
    compAt_congr w (off2_eq c w) _ (pc_inb (yy c) (pp c) w) (off3_eq c w) _ (oc_inb (pp c) w)]
  unfold compAt
  simp only [Prog.lift, Prog.bind_op, Prog.bind_ret]
  iintro ⟨#Hrec, #Hlev, Hn, Ho⟩ Hk
  simp only [need, gain, sepL, res]
  icases Hn with ⟨Hown, H0, H1, H2, Hg, ⟨%X, Hraw⟩, -⟩
  iapply (load_slice c A0 (partRect (yy c) (pp c) w) (fun _ => rfl) fullShare _ _ Q) $$ Hown; iintro Hown
  iapply (load_slot c w 0 _ _ Q) $$ H0; iintro H0
  iapply (load_slot c w 1 _ _ Q) $$ H1; iintro H1
  iapply (load_slot c w 2 _ _ Q) $$ H2; iintro H2
  iapply (load_scale c _ _ Q) $$ Hg; iintro Hg
  iapply (load_slice c A2 (outRect (pp c) w) (fun _ => rfl) fullShare _ _ Q) $$ Hraw; iintro Hraw
  iapply (store_slice c A2 (outRect (pp c) w) (fun _ => rfl) _ _ _ Q) $$ Hraw; iintro Hraw
  iapply Hk
  isplitr [Ho]
  · rw [blk_own P G c w]
    ihave Hh := (owns_halves (c : Thread nD τ) (outC A2 (pp c) w) fullShare (ownV P G c w)).1 $$ Hraw
    icases Hh with ⟨HL, HR⟩
    isplitl [Hown]; · iexact Hown
    isplitl [H0]; · iexact H0
    isplitl [H1]; · iexact H1
    isplitl [H2]; · iexact H2
    isplitl [Hg]; · iexact Hg
    isplitl [HL]; · iexact HL
    isplitl [HR]; · iexact HR
    iempintro
  iexact Ho

/-! ## The run -/

theorem rule (c : Dev nD) (σ : Step) : Rule P G K c σ := by
  cases σ with
  | sig i => exact rule_sig P G K c i
  | bar => exact rule_bar P G K c
  | send x => exact rule_send P G K c x
  | sent x => exact rule_sent P G K c x
  | got x => exact rule_got P G K c x
  | comp w => exact rule_comp P G K c w

/-- A list of steps that may be taken from some pieces runs, and leaves what it leaves of them. -/
theorem run_steps (c : Dev nD) (Q : PUnit → sProp 𝕄) (σs : List Step) (S S' : List Res) (h : exec σs S = some S') :
    iprop(records P G K ∗ levAts L lv ∗ sepL (res P G c) S ∗ ow c σs)
      ⊢ iprop(((sepL (res P G c) S' ∗ ow c []) -∗ Q ⟨⟩) -∗ wpc c (runs A0 A1 A2 A3 c σs) Q) := by
  induction σs generalizing S with
  | nil =>
    obtain rfl : S = S' := by simpa [exec] using h
    iintro ⟨-, -, HS, Ho⟩ Hk
    rw [show (runs A0 A1 A2 A3 c [] : Pr F) = .ret ⟨⟩ from rfl]
    unfold wpc
    rw [wp_ret]
    imodintro
    iapply Hk
    isplitl [HS]; · iexact HS
    iexact Ho
  | cons σ σs ih =>
    rw [exec] at h
    by_cases ha : above (wrank σ) σs = true
    · rw [if_pos ha] at h
      cases ht : take (need σ) S with
      | none => rw [ht] at h; cases h
      | some S₁ =>
        rw [ht] at h
        have ih' := ih _ h
        have htake := sepL_take (res P G c) ht
        rw [show (runs A0 A1 A2 A3 c (σ :: σs) : Pr F) = den A0 A1 A2 A3 c σ >>= fun _ => runs A0 A1 A2 A3 c σs from rfl]
        iintro ⟨#Hrec, #Hlev, HS, Ho⟩ Hk
        ihave H := htake $$ HS
        icases H with ⟨Hn, HS⟩
        iapply (rule P G K c σ σs ha (fun _ => runs A0 A1 A2 A3 c σs) Q) $$ [Hn Ho]
        · isplitr; · iexact Hrec
          isplitr; · iexact Hlev
          isplitl [Hn]; · iexact Hn
          iexact Ho
        iintro ⟨Hg, Ho⟩
        iapply ih' $$ [Hg HS Ho]
        · isplitr; · iexact Hrec
          isplitr; · iexact Hlev
          isplitl [Hg HS]
          · rw [sepL_append]
            isplitl [Hg]; · iexact Hg
            iexact HS
          iexact Ho
        iexact Hk
    · rw [if_neg ha] at h; cases h

/-- The whole body, from the pieces a device starts from to those it ends with. -/
theorem run_body (c : Dev nD) (Q : PUnit → sProp 𝕄) :
    iprop(records P G K ∗ levAts L lv ∗ sepL (res P G c) start ∗ ow c steps)
      ⊢ iprop(((sepL (res P G c) finish ∗ ow c []) -∗ Q ⟨⟩) -∗ wpc c (prog A0 A1 A2 A3) Q) := by
  have hk := okay_true
  unfold okay at hk
  cases he : exec steps start with
  | none => rw [he] at hk; cases hk
  | some S =>
    rw [he] at hk
    cases ht : take finish S with
    | none => simp only [ht] at hk; cases hk
    | some T =>
      have hfin := sepL_take (res P G c) ht
      have hrun := run_steps P G K c Q steps start S he
      unfold prog
      simp only [Prog.lift, Prog.bind_op, Prog.bind_ret, wp_deviceId]
      simp only [ht] at hk
      cases T with
      | cons a T => cases hk
      | nil =>
        iintro H Hk
        iapply hrun $$ H
        iintro ⟨HS, Ho⟩
        iapply Hk
        ihave H := hfin $$ HS
        icases H with ⟨HF, -⟩
        isplitl [HF]; · iexact HF
        iexact Ho

end Cert.KernelIdeal.Run

end
-- ==== Proof.Launch.lean ====
/- The run of the whole program on all devices: the host's two reshapes, then the kernel, from any memory with
   semaphores at zero to the result's rows, the arguments unchanged and every semaphore back at zero. -/
module

public import proofs.«01_k».proof.Proof.Fund
public import proofs.«01_k».proof.Proof.Rules
public import proofs.«01_k».proof.Proof.Gen.KernelIdeal.Frame
public import Idealize.ShloMosaic.Lib.Pipeline.Regions
public import Idealize.ShloMosaic.Lib.Pipeline.TalkSched

@[expose] public section

set_option maxRecDepth 16384

noncomputable section

namespace Cert.KernelIdeal.Run

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem Idealize.ShloMosaic.Rounds
open Idealize.ShloMosaic.Pipeline (Dat BodyObligation)
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## What the kernel works on -/

/-- A device's partial sum and scale, as the kernel finds them. -/
def Pm (c : Dev nD) : Vec F S4096x1024 .f32 := iblk m c 0 t0_0
def Gm (c : Dev nD) : Vec F S1x1024 .f32 := iblk m c 1 t0_0

/-- Before the body: a device's rights under the shared records. -/
def Φ₀ (c : Dev nD) : sProp 𝕄 :=
  iprop(((∃ K, records (Pm m) (Gm m) K) ∗ rights (Pm m) (Gm m) c ∗ levAts L lv) ∗ (∃ r, prngReg c r)
    ∗ Pipeline.scopedRest (Ix := Unit) (Name := ℕ) (U := UU) (Lvl := ℕ) (Val := Elt F) spec0 c)
/-- After it: its semaphores at zero. -/
def Φ₁ (c : Dev nD) : sProp 𝕄 :=
  iprop(zeros (F := F) c ∗ (∃ r, prngReg c r)
    ∗ Pipeline.scopedRest (Ix := Unit) (Name := ℕ) (U := UU) (Lvl := ℕ) (Val := Elt F) spec0 c)

/-- The proof data of the kernel's one point. -/
def dats (_ : Fin 1) (c : Dev nD) : Dat τ (Elt F) Unit ℕ UU ℕ cfg0 c where
  A w := V m c (Pipeline.arrRef spec0 w)
  after w _ := match w with
    | ⟨0, _⟩ => Pm m c
    | ⟨1, _⟩ => Gm m c
    | ⟨2, _⟩ => outAll (Pm m) (Gm m) c
    | ⟨_ + 3, h⟩ => absurd h (Nat.not_lt.2 (Nat.le_add_left _ _))
  Φ t := if t.val = 0 then Φ₀ m c else Φ₁ c
  q _ := fullShare
  owed t := oweL c (if t.val = 0 then steps else [])

theorem A_eq (c : Dev nD) (w : Fin cfg0.W) : (dats m 0 c).A w = V m c (Pipeline.arrRef spec0 w) := by dsimp only [dats]

theorem before_0 (c : Dev nD) (d : (cfg0.win 0).block.Idx → Elt F (cfg0.win 0).elt) : (dats m 0 c).before 0 t0_0 d = Pm m c := by
  unfold Dat.before; rw [if_pos (by decide)]; rfl
theorem before_1 (c : Dev nD) (d : (cfg0.win 1).block.Idx → Elt F (cfg0.win 1).elt) : (dats m 0 c).before 1 t0_0 d = Gm m c := by
  unfold Dat.before; rw [if_pos (by decide)]; rfl

/-- A whole buffer at some contents is its view at some values. -/
theorem any_scratch (c : Dev nD) : (anyAt (F := F) c A3) = iprop(∃ f : Buf (Elt F) ((c : Thread nD τ).loc cc0_scratch0), ((c : Thread nD τ).loc cc0_scratch0) ↦{fullShare} f) := by
  unfold anyAt hold A3
  simp only [owns_whole_eq]
  refine BI.Entails.antisymm (?_ : (_ : sProp 𝕄) ⊢ _) (?_ : (_ : sProp 𝕄) ⊢ _)
  · iintro ⟨%X, %f, -, H⟩; iexists f; iexact H
  · iintro ⟨%f, H⟩; iexists f, f; isplitr; · ipureintro; rfl
    iexact H

/-- The body's obligation: from the staged windows and the rights, the run of the body, to the windows after it. -/
theorem body_obligation (c : Dev nD) : BodyObligation (dats m 0 c) (defs₀ (F := F)) 𝒱₀ () Set.univ := fun t => by
  obtain rfl := fin_N0 t
  rw [bigSep_W0, bigSep_W0]
  rw [show (dats m 0 c).Φ t0_0.castSucc = Φ₀ m c from rfl, show (dats m 0 c).Φ t0_0.succ = Φ₁ c from rfl]
  show iprop(Φ₀ m c ∗ (dats m 0 c).owesAt () t0_0.castSucc
      ∗ (∃ d, hold c A0 fullShare ((dats m 0 c).before 0 t0_0 d)) ∗ (∃ d, hold c A1 fullShare ((dats m 0 c).before 1 t0_0 d))
      ∗ ∃ d, hold c A2 fullShare ((dats m 0 c).before 2 t0_0 d))
    ⊢ wpc c (cc0_body A0 (Memref.isWhole_whole _) A1 (Memref.isWhole_whole _) A2 (Memref.isWhole_whole _) A3 (Memref.isWhole_whole _)
        cc0_scratch1 cc0_scratch2 cc0_scratch3 cc0_scratch4 cc0_scratch5 cc0_scratch6)
      (fun _ => iprop(Φ₁ c ∗ (dats m 0 c).owesAt () t0_0.succ
        ∗ hold c A0 fullShare (Pm m c) ∗ hold c A1 fullShare (Gm m c) ∗ hold c A2 fullShare (outAll (Pm m) (Gm m) c)))
  rw [body_eq]
  unfold Φ₀ Φ₁
  rw [scopedRest0_eq, ← any_scratch]
  iintro ⟨⟨⟨⟨%K, #Hrec⟩, Hri, #Hlev⟩, Hp, H3⟩, HO, ⟨%d0, H0⟩, ⟨%d1, H1⟩, ⟨%d2, H2⟩⟩
  rw [before_0, before_1]
  ihave HO := (TalkSites.owesAt_elim (dats m 0 c) () t0_0.castSucc (oweL c steps) rfl) $$ HO
  ihave H := (enter (Pm m) (Gm m) c) $$ [Hri H0 H1 H2 H3]
  · isplitl [Hri]; · iexact Hri
    isplitl [H0]; · iexact H0
    isplitl [H1]; · iexact H1
    isplitl [H2]; · unfold anyAt; iexists _; iexact H2
    iexact H3
  icases H with ⟨Hst, Hkeep⟩
  iapply (run_body (Pm m) (Gm m) K c _) $$ [Hst HO]
  · isplitr; · iexact Hrec
    isplitr; · iexact Hlev
    isplitl [Hst]; · iexact Hst
    unfold ow; iexact HO
  iintro ⟨Hfin, HO⟩
  ihave H := (leave (Pm m) (Gm m) c) $$ [Hfin Hkeep]
  · isplitl [Hfin]; · iexact Hfin
    iexact Hkeep
  icases H with ⟨Hz, H0, H1, H2, H3⟩
  isplitl [Hz Hp H3]
  · isplitl [Hz]; · iexact Hz
    isplitl [Hp]; · iexact Hp
    iexact H3
  isplitl [HO]
  · unfold ow
    icases HO with ⟨%W, HO⟩
    iapply (TalkSites.owesAt_intro (dats m 0 c) () t0_0.succ (oweL c []) rfl rfl W); iexact HO
  isplitl [H0]; · iexact H0
  isplitl [H1]; · iexact H1
  iexact H2

/-! ## The host's operations, the kernel, and the whole program -/

/-- The kernel's own semaphores are scoped, distinct, and no staging semaphore. -/
theorem own_facts : Pipeline.OwnSemFacts spec0 osem := by decide +kernel

/-- At zero, they are the departures' and the arrivals'. -/
theorem own_zero (c : Dev nD) :
    iprop((bigSep Finset.univ fun x : Xf => semVal (kcell c (.s x)) 0) ∗ bigSep Finset.univ fun x : Xf => semVal (kcell c (.r x)) 0)
      ⊢ (Pipeline.ownSems0 osem c : sProp 𝕄) := by
  unfold Pipeline.ownSems0
  exact Entails.of_eq (bigSep_univ_sum fun y : Xf ⊕ Xf => (semVal ((c : Thread nD τ), osem y) 0 : sProp 𝕄)).symm

/-- After the body: the barrier at zero, the kernel's own semaphores at zero, the scoped buffer. -/
theorem after_exit (c : Dev nD) : Φ₁ (F := F) c ⊢ iprop(semVal (kcell c .b) 0 ∗ Pipeline.ownSems0 osem c
    ∗ Pipeline.scopedRest (Ix := Unit) (Name := ℕ) (U := UU) (Lvl := ℕ) (Val := Elt F) spec0 c) := by
  have h := own_zero (F := F) c
  unfold Φ₁ zeros
  iintro ⟨⟨Hb, Hs, Hv⟩, -, Hr⟩
  isplitl [Hb]; · iexact Hb
  isplitl [Hs Hv]
  · ihave H := h $$ [Hs Hv]
    · isplitl [Hs]; · iexact Hs
      iexact Hv
    iexact H
  iexact Hr

/-- The unscoped buffers of a core. -/
def ucRefs : Finset (DevRef τ sig) := (StableHlo.tcRefs τ sig).filter fun b => ¬ b.isScoped

theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-- The barrier is the one unscoped semaphore. -/
theorem unscoped_is : ∀ sm : SemLoc sig, sm.isScoped .tc = false → sm = csem .b := by decide +kernel
theorem unscopedSems0_eq (c : Dev nD) : (unscopedSems0 c : sProp 𝕄) = semVal (kcell c .b) 0 := by
  unfold unscopedSems0
  rw [show (Finset.univ.filter fun sm : SemLoc sig => ¬ sm.isScoped .tc) = {csem .b} from by decide +kernel, BI.bigSep_singleton]

abbrev adm : (p : Fin 1) → (pcfgs (F := F) p).Adm := fun p => (cfgs p).toPCfg_adm

/-- The memory at launch, as a core's valuation. -/
abbrev V₀ (c : Dev nD) : Valuation τ sig (Elt F) := fun b => m (c, b)

/-- What rides beside the buffers up to the kernel. -/
def R (c : Dev nD) : sProp 𝕄 :=
  iprop(dealt (Pm m) (Gm m) c ∗ (∃ r, prngReg c r) ∗ ∃ W, owes (c : Thread nD τ) (owe₀ c) W)

/-- The host's reshapes. -/
def seg0 : Pipeline.HostSeg (Name := ℕ) (U := UU) (pcfgs (F := F)) defs₀ 𝒱₀ L lv :=
  Pipeline.HostSeg.ofOps _ _ _ _ _ ucRefs hostOps0 (fun op h => sub_ucRefs op ((List.forall_iff_forall_mem.mp hostOps0_sub) op h))
    (fun op h => (List.forall_iff_forall_mem.mp hostOps0_fresh) op h) (V₀ m) (R m)

/-- What the kernel leaves: the arrays at their final contents, the arguments, the barrier at zero. -/
abbrev Tₙ (c : Dev nD) : sProp 𝕄 :=
  iprop((dats m 0 c).arrays ((dats m 0 c).arrAt · cfg0.N)
    ∗ ((((c : Thread nD τ).loc main_arg0) ↦{fullShare} V m c main_arg0) ∗ (((c : Thread nD τ).loc main_arg1) ↦{fullShare} V m c main_arg1))
    ∗ semVal (kcell c .b) 0)

theorem stage_level (w : Fin cfg0.W) (s : Fin (cfg0.win w).nbuf) (c : Dev nD) :
    lv ((c : Thread nD τ), .dma ((cfg0.win w).sem s)) () ≤ 0 := by
  have h : ∀ (w : Fin 3) (s : Fin (spec0 w).nbuf) (k : Ck), csem k ≠ .dma ((spec0 w).sem s) := by decide +kernel
  unfold lv ckOf
  rw [dif_neg fun ⟨k, hk⟩ => h w s k hk]

theorem staging_waits (c : Dev nD) :
    (levAts L lv : sProp 𝕄) ⊢ Pipeline.cellsWaits (Pipeline.pin (pcfgs (F := F)) adm) (dats m) () 0 c :=
  Pipeline.cellsWaits_intro _ _ () 0 c fun w s t => by
    refine mayWait c _ 0 (stage_level w s c) (if t.val = 0 then steps else []) ?_
    split
    · decide +kernel
    · rfl

set_option backward.isDefEq.respectTransparency.types false in
/-- The kernel, entered from what the host left. -/
def reg0 : Pipeline.RegionSeg (pcfgs (F := F)) adm (dats m) () defs₀ 𝒱₀ L lv 0 where
  win := launch0.win.to₀
  block_pos := launch0.block_pos
  stage_whole := launch0.stage_whole
  K := Xf ⊕ Xf
  osem := osem
  ho := own_facts
  hbody c := (body_obligation m c).loose
  hwaits c := staging_waits m c
  pre c := iprop(StableHlo.held (c : Thread nD τ) ucRefs (StableHlo.after hostOps0 (V₀ m c)) ∗ R m c)
  post c := iprop(Tₙ m c ∗ ∃ W, owes (c : Thread nD τ) (0 : CellTallies nD τ sig Unit) W)
  X c := iprop(((∃ K, records (Pm m) (Gm m) K) ∗ rights (Pm m) (Gm m) c ∗ levAts L lv) ∗ ∃ r, prngReg c r)
  Y c := semVal (kcell c .b) 0
  Z c := iprop((((c : Thread nD τ).loc main_arg0) ↦{fullShare} V m c main_arg0) ∗ (((c : Thread nD τ).loc main_arg1) ↦{fullShare} V m c main_arg1))
  hentry c := by
    rw [show StableHlo.held (c : Thread nD τ) ucRefs (StableHlo.after hostOps0 (V₀ m c)) = unscopedBufs c (V m c) from (unscopedBufs_held c _).symm]
    have hsplit := (Pipeline.arrays_of_unscopedBufs (pcfgs (F := F)) adm (dats m) launch0.win launch0.arr_whole c
      ((dats m 0 c).share_full fun _ => rfl) (V m c) (A_eq m c)).trans (sep_mono .rfl (Entails.of_eq (unscopedRest0_eq c (V m c))))
    unfold R
    iintro ⟨⟨Hub, Hd, Hp, HO⟩, Hos, #Hlev⟩
    ihave H := hsplit $$ Hub
    icases H with ⟨Ha, H1⟩
    imod (ready (Pm m) (Gm m) c) $$ [Hd Hos] with HX
    · isplitl [Hd]; · iexact Hd
      isplitl [Hos]; · iexact Hos
      iexact Hlev
    imodintro
    isplitl [Ha]; · iexact Ha
    isplitr; · unfold Pipeline.prefHeld; rw [show (Finset.univ : Finset (Fin 0)) = ∅ from rfl, BI.bigSep_empty]; iempintro
    isplitl [HO]
    · icases HO with ⟨%W, HO⟩
      iapply (TalkSites.owesAt_intro (dats m 0 c) () 0 (oweL c steps) rfl rfl W); iexact HO
    isplitl [HX Hp]
    · isplitl [HX]; · iexact HX
      iexact Hp
    iexact H1
  hin c := by
    rw [show (dats m 0 c).Φ 0 = Φ₀ m c from rfl]; unfold Φ₀
    iintro ⟨⟨HX, Hp⟩, -, Hr⟩
    isplitl [HX]; · iexact HX
    isplitl [Hp]; · iexact Hp
    iexact Hr
  hout c := after_exit c
  hexit c := by
    iintro ⟨Ha, HO, HY, HZ⟩
    imodintro
    isplitr [HO]
    · isplitl [Ha]; · iexact Ha
      isplitl [HZ]; · iexact HZ
      iexact HY
    · ihave HO := (TalkSites.owesAt_elim (dats m 0 c) () (Fin.last cfg0.N) (oweL c []) rfl) $$ HO
      iexact HO

abbrev segs : List (Pipeline.Seg (pcfgs (F := F)) adm (dats m) () defs₀ 𝒱₀ L lv) := [.host (seg0 m), .region (reg0 m)]

/-- The ghost state at launch: the staging cells', and the protocol's. -/
def u₀ : UU :=
  (initOf (Pipeline.cells cfgs cellOf_inj) (Pipeline.launchToks cfgs cellOf_inj), launchOf barCells cpCells duties)

/-- The protocol's part, kept on the first device until it is dealt. -/
def G₀ (c : Dev nD) : sProp 𝕄 := if c = 0 then own (ER (launchOf barCells cpCells duties)) else iprop(emp)
theorem bigSep_G₀ : bigSep Finset.univ (G₀ (F := F)) = own (ER (launchOf barCells cpCells duties)) := by
  rw [bigSep_univ_at _ (0 : Dev nD), bigSep_congr (s := Finset.univ.erase (0 : Dev nD)) (Ψ := fun _ => (BI.emp : sProp 𝕄))
      fun c hc => by unfold G₀; rw [if_neg (Finset.ne_of_mem_erase hc)]; rfl, BI.bigSep_emp_const]
  unfold G₀; rw [if_pos rfl]
  exact _root_.Idealize.SL.BI.equiv_iff.mp sep_emp

abbrev T₀ (c : Dev nD) : sProp 𝕄 := iprop(StableHlo.held (c : Thread nD τ) ucRefs (V₀ m c) ∗ R m c)

/-- What a core starts with beside the protocol's part. -/
def plain (c : Dev nD) : sProp 𝕄 :=
  iprop(StableHlo.held (c : Thread nD τ) ucRefs (V₀ m c) ∗ credits (F := F) c ∗ owes (c : Thread nD τ) (owe₀ c) ∅ ∗ prngReg c (ρ c))

/-- From what every core has at launch to what its program starts from. -/
theorem launch_init :
    iprop((bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G₀ c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (owe₀ c) ∅ ∗ Pipeline.launchCred owe₀ c ∗ prngReg c (ρ c) ∗ G₀ c)
      ⊢ (iprop(plain m ρ c ∗ (semVal (kcell c .b) 0 ∗ G₀ c)) : sProp 𝕄) := by
    rw [show unscopedBufs c (fun b => m ((c : Thread nD τ).loc b)) = StableHlo.held (c : Thread nD τ) ucRefs (V₀ m c) from unscopedBufs_held c (V₀ m c),
      unscopedSems0_eq]
    unfold plain
    iintro ⟨Hh, Hus, HO, Hcr, Hp, HG⟩
    ihave Hc := (launch_credits (F := F) c) $$ Hcr
    isplitl [Hh Hc HO Hp]
    · isplitl [Hh]; · iexact Hh
      isplitl [Hc]; · iexact Hc
      isplitl [HO]; · iexact HO
      iexact Hp
    isplitl [Hus]; · iexact Hus
    iexact HG
  have hjoin (K : Dev nD × Ck → ℕ) (c : Dev nD) : iprop(records (Pm m) (Gm m) K ∗ (linear (F := F) c ∗ plain m ρ c)) ⊢ T₀ m c := by
    unfold plain T₀ R dealt
    iintro ⟨#HR, Hl, Hh, Hc, HO, Hp⟩
    isplitl [Hh]; · iexact Hh
    isplitl [Hl Hc]
    · isplitr; · iexists K; iexact HR
      isplitl [Hl]; · iexact Hl
      iexact Hc
    isplitl [Hp]; · iexists (ρ c); iexact Hp
    iexists ∅; iexact HO
  iintro ⟨H, -⟩
  ihave H := (show (bigSep Finset.univ fun c : Dev nD => iprop(unscopedBufs c (fun b => m ((c : Thread nD τ).loc b)) ∗ unscopedSems0 c
          ∗ owes (c : Thread nD τ) (owe₀ c) ∅ ∗ Pipeline.launchCred owe₀ c ∗ prngReg c (ρ c) ∗ G₀ c))
      ⊢ (bigSep Finset.univ fun c : Dev nD => iprop(plain m ρ c ∗ (semVal (kcell c .b) 0 ∗ G₀ c)) : sProp 𝕄) from bigSep_mono fun c _ => hcore c) $$ H
  ihave H := (pair_off _ _) $$ H; icases H with ⟨HB, H⟩
  ihave H := (pair_off _ _) $$ H; icases H with ⟨Hv, HG⟩
  ihave Hu := (Entails.of_eq (bigSep_G₀ (F := F))) $$ HG
  imod (fund (Pm m) (Gm m)) $$ [Hv Hu] with ⟨⟨%K, #Hrec⟩, Hl⟩
  · isplitl [Hv]; · iexact Hv
    iexact Hu
  imodintro
  iapply (bigSep_with_persistent (R := records (Pm m) (Gm m) K) (Φ := fun c => iprop(linear (F := F) c ∗ plain m ρ c)) fun c _ => hjoin K c)
  isplitr; · iexact Hrec
  iapply (pair_up _ _)
  isplitl [Hl]; · iexact Hl
  iexact HB

set_option backward.isDefEq.respectTransparency.types false in
/-- The run: on the mesh, for any float values, from any memory with semaphores at zero, every weakly fair execution of
    the program ends, with the result's array at its final contents, the arguments unchanged, every semaphore at zero. -/
theorem run_main : θ_run defs (onTc (τ := τ) (main (F := F))) (s₀ m ρ) (fun r =>
    (∀ c : Dev nD, r.2.mem ((cfg0.win 2).arr.view.loc (c : Thread nD τ)) = (dats m 0 c).arrAt 2 cfg0.N
      ∧ r.2.mem ((c : Thread nD τ).loc main_arg0) = m ((c : Thread nD τ).loc main_arg0)
      ∧ r.2.mem ((c : Thread nD τ).loc main_arg1) = m ((c : Thread nD τ).loc main_arg1)) ∧ r.2.sem = fun _ => 0) :=
  Pipeline.θ_run_regions_kit_sems (pcfgs (F := F)) adm (dats m) () cellOf_inj EP defs₀ 𝒱₀ L lv m ρ main (segs m)
    (fun c Q => by rw [main_segs adm (dats m) () 𝒱₀ L lv (seg0 m) (reg0 m) rfl c])
    (by simp only [Pipeline.Seg.pipes_host, Pipeline.Seg.pipes_region, Pipeline.Seg.pipes_nil]; decide)
    (O₀ := owe₀) (hL := L_of_ne) (G := G₀) (u₀ := u₀)
    (hu₀ := by
      unfold u₀
      iintro Hu
      ihave H := (ownU_pair _ _) $$ Hu
      icases H with ⟨HP, HX⟩
      imodintro
      isplitl [HP]; · iexact HP
      rw [bigSep_G₀]; iexact HX)
    (T₀ := T₀ m) (Tₙ := Tₙ m)
    (hch := ⟨fun _ => .rfl, fun _ => .rfl, fun _ => .rfl⟩)
    (hinit := launch_init m ρ)
    (QY := fun c s => (∀ w : Fin cfg0.W, s.mem ((cfg0.win w).arr.view.loc (c : Thread nD τ)) = (dats m 0 c).arrAt w cfg0.N)
      ∧ s.mem ((c : Thread nD τ).loc main_arg0) = m ((c : Thread nD τ).loc main_arg0)
      ∧ s.mem ((c : Thread nD τ).loc main_arg1) = m ((c : Thread nD τ).loc main_arg1)
      ∧ s.sem (kcell c .b) = 0)
    (hfin := fun c s' => by
      dsimp only [Tₙ]; rw [V_main_arg0, V_main_arg1]
      iintro ⟨⟨Ha, ⟨H0, H1⟩, Hb⟩, HSI⟩
      icombine HSI H0 gives %h0
      icombine HSI H1 gives %h1
      icombine HSI Hb gives %hb
      ihave Hr := (Pipeline.arrays_read (pcfgs (F := F)) adm (dats m) launch0.arr_whole c ((dats m 0 c).share_full fun _ => rfl) _ s') $$ [Ha HSI]
      · isplitl [Ha]; · iexact Ha
        iexact HSI
      icases Hr with ⟨%ha, HSI⟩
      imodintro
      isplitr
      · ipureintro
        exact ⟨ha, Buf.eq_of_forall_mem_univ h0, Buf.eq_of_forall_mem_univ h1, by simpa using hb⟩
      iexact HSI)
    (hQ := fun s h hs => ⟨fun c => ⟨(h c).1 2, (h c).2.1, (h c).2.2.1⟩,
      sem_eq_zero hs fun c sm hsm => by
        obtain rfl := unscoped_is sm hsm
        exact (h c).2.2.2⟩)

end Cert.KernelIdeal.Run

end
-- ==== Proof.Frames.lean ====
/-
  What each of the three programs leaves behind. The two printings of the kernel have the same text, so one run,
  proved for any float values, serves both: at words of bits for the kernel as printed, at extended reals for the
  idealized one. The reference runs on one device and declares no semaphore.
-/
module

public import proofs.«01_k».proof.Defs
public import proofs.«01_k».proof.Proof.Launch
public import proofs.«01_k».proof.Proof.Gen.Kernel
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

/-- Over any float values the idealized kernel terminates on all 32 devices, its arguments end as they began and
    every semaphore counter ends at zero. -/
theorem frame_run {F : FTy → Type} [FloatOps F]
    (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F)))
      ⟨m, fun _ => 0, ρ⟩ (fun r =>
        (∀ c : Dev Cert.KernelIdeal.nD,
          r.2.mem ((c.tc : Thread Cert.KernelIdeal.nD Cert.KernelIdeal.τ).loc Cert.KernelIdeal.main_arg0)
              = m ((c.tc : Thread Cert.KernelIdeal.nD Cert.KernelIdeal.τ).loc Cert.KernelIdeal.main_arg0)
            ∧ r.2.mem ((c.tc : Thread Cert.KernelIdeal.nD Cert.KernelIdeal.τ).loc Cert.KernelIdeal.main_arg1)
              = m ((c.tc : Thread Cert.KernelIdeal.nD Cert.KernelIdeal.τ).loc Cert.KernelIdeal.main_arg1))
        ∧ r.2.sem = fun _ => 0) :=
  (θ_run Cert.KernelIdeal.defs _ _).mono (fun _ h => ⟨fun c => (h.1 c).2, h.2⟩)
    (Cert.KernelIdeal.Run.run_main m ρ)

set_option maxRecDepth 8192 in
/-- The body of the kernel as printed and of its idealized printing are the same program. -/
theorem body_eq {F : FTy → Type} [FloatOps F] :
    Cert.Kernel.cc0_body (F := F) = Cert.KernelIdeal.cc0_body (F := F) := rfl

/-- The one-entry tables of kernel bodies are then the same, -/
theorem bodies_eq {F : FTy → Type} [FloatOps F] :
    Cert.Kernel.defs₀ (F := F) = Cert.KernelIdeal.defs₀ (F := F) := by
  refine congrArg (Defs.onTc (nD := Cert.Kernel.nD) (τ := Cert.Kernel.τ) (sig := Cert.Kernel.sig)
    (Λ := Cert.Kernel.Λ₀)) (funext fun ℓ => funext fun a => ?_)
  have h : ℓ = 0 := Subsingleton.elim _ _
  subst h
  obtain ⟨t, s⟩ := a
  show Cert.Kernel.cc0_body (F := F) _ _ _ _ _ _ _ _ _ _ _ _ _ _
    = Cert.KernelIdeal.cc0_body (F := F) _ _ _ _ _ _ _ _ _ _ _ _ _ _
  rw [body_eq]

/-- and so are the tables that add the staging of the call. -/
theorem tables_eq {F : FTy → Type} [FloatOps F] :
    Cert.Kernel.defs (F := F) = Cert.KernelIdeal.defs (F := F) := by
  unfold Cert.Kernel.defs Cert.KernelIdeal.defs
  rw [bodies_eq]
  rfl

/-- The kernel as printed, at words of bits: it terminates, its arguments unchanged and its counters at zero. Its
    text is the idealized kernel's, so the run is the same. -/
theorem frame_kernel : Cert.quiescent_Kernel := fun m ρ _ => by
  rw [tables_eq]
  exact frame_run (F := Bits) m ρ

/-- The idealized kernel at extended reals terminates, its arguments unchanged and its counters at zero. -/
theorem frame_ideal : Cert.quiescent_KernelIdeal := fun m ρ _ => frame_run (F := Ideal) m ρ

/-- The idealized reference terminates with its arguments unchanged; it has no semaphore to leave raised. -/
theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

end Cert.Proof

end
-- ==== Proof.Norm.lean ====
/-
  The arithmetic of one row over the extended reals: dividing a row by the root of its mean square plus a small
  positive number, as the reference does, and multiplying it by the reciprocal of that root, as the kernel does,
  give the same row, for every row of extended reals.
-/
module

public import Idealize.ShloMosaic.PureOps.Ideal
public import Idealize.ShloMosaic.PureOps.Ideal.Laws

@[expose] public section

noncomputable section

namespace Cert.Norm

open Idealize.ShloMosaic

/-- The square of an extended real is not negative. -/
theorem mul_self_nonneg (x : EReal) : 0 ≤ x * x := by
  rcases le_total 0 x with h | h
  · exact mul_nonneg h h
  · have h' : 0 ≤ -x := by simpa using EReal.neg_le_neg_iff.mpr h
    simpa using mul_nonneg h' h'

/-- The float word of 1024. -/
theorem width_eq : Ideal.ofBits .f32 0x44800000#32 = ((1024 : ℝ) : EReal) := by
  simp [Ideal.ofBits, Ideal.ieee, -EReal.coe_mul]; norm_num

/-- The float word next to a millionth is a positive real. -/
theorem eps_pos : 0 < Ideal.ofBits .f32 0x358637BD#32 := by
  have h : Ideal.ofBits .f32 0x358637BD#32 = (((8796093 : ℝ) * 2 ^ (-43 : ℤ) : ℝ) : EReal) := by
    simp [Ideal.ofBits, Ideal.ieee, -EReal.coe_mul]
  rw [h]
  exact EReal.coe_pos.mpr (by positivity)

/-- The mean of squares plus the small number is positive. -/
theorem mean_pos {n : ℕ} (s : Fin n → EReal) :
    0 < Ideal.div (∑ k, s k * s k) (Ideal.ofBits .f32 0x44800000#32) + Ideal.ofBits .f32 0x358637BD#32 := by
  have h0 : 0 ≤ ∑ k, s k * s k := Finset.sum_nonneg fun k _ => mul_self_nonneg (s k)
  have hne : (((1024 : ℝ) : EReal)) ≠ 0 := by
    intro h; exact absurd (EReal.coe_eq_zero.mp h) (by norm_num)
  have h1 : 0 ≤ Ideal.div (∑ k, s k * s k) (Ideal.ofBits .f32 0x44800000#32) := by
    rw [width_eq]; unfold Ideal.div; rw [if_neg hne, ← EReal.coe_inv]
    exact mul_nonneg h0 (EReal.coe_nonneg.mpr (by norm_num))
  exact lt_of_lt_of_le eps_pos (le_add_of_nonneg_left h1)

/-- Multiplying by the reciprocal root of a positive extended real is dividing by its root. -/
theorem mul_rsqrt (x v : EReal) (hv : 0 < v) : x * Ideal.rsqrt v = Ideal.div x (Ideal.sqrt v) := by
  induction v with
  | bot => exact absurd hv (by simp)
  | top => rw [Ideal.rsqrt_top, Ideal.sqrt_top]; unfold Ideal.div; rw [if_neg (by simp), EReal.inv_top]
  | coe r =>
    have hr : 0 < r := EReal.coe_pos.mp hv
    have hs : (((Real.sqrt r : ℝ)) : EReal) ≠ 0 := by
      intro h; exact absurd (EReal.coe_eq_zero.mp h) (Real.sqrt_pos.mpr hr).ne'
    rw [Ideal.rsqrt_coe, Ideal.sqrt_coe, if_neg (not_lt.mpr hr.le), if_neg hr.ne', if_neg (not_lt.mpr hr.le)]
    unfold Ideal.div
    rw [if_neg hs, EReal.coe_inv]

/-- One entry of a normalised and scaled row: the entry over the root of the row's mean square plus the small
    number, times its scale. -/
def normed {n : ℕ} (s : Fin n → EReal) (g : Fin n → EReal) (l : Fin n) : EReal :=
  Ideal.div (s l) (Ideal.sqrt (Ideal.div (∑ k, s k * s k) (Ideal.ofBits .f32 0x44800000#32)
    + Ideal.ofBits .f32 0x358637BD#32)) * g l

/-- The kernel's form of it, by the reciprocal root. -/
theorem by_rsqrt {n : ℕ} (s : Fin n → EReal) (g : Fin n → EReal) (l : Fin n) :
    s l * Ideal.rsqrt (Ideal.div (∑ k, s k * s k) (Ideal.ofBits .f32 0x44800000#32)
      + Ideal.ofBits .f32 0x358637BD#32) * g l = normed s g l := by
  rw [mul_rsqrt _ _ (mean_pos s)]; rfl

/-- A sum over the four places along y, begun at any of them and taken backwards. -/
theorem sum_around (a : Fin 4 → EReal) (y : Fin 4) :
    a y + a (y + 3) + a (y + 2) + a (y + 1) = ∑ k, a k := by
  rw [Fin.sum_univ_four]
  revert y
  have h : ∀ y : Fin 4, y = 0 ∨ y = 1 ∨ y = 2 ∨ y = 3 := by decide
  intro y
  rcases h y with rfl | rfl | rfl | rfl
  · show a 0 + a 3 + a 2 + a 1 = _; ac_rfl
  · show a 1 + a 0 + a 3 + a 2 = _; ac_rfl
  · show a 2 + a 1 + a 0 + a 3 = _; ac_rfl
  · show a 3 + a 2 + a 1 + a 0 = _; ac_rfl

end Cert.Norm

end
-- ==== Proof.Rows.lean ====
/- The rows a device computes, entry by entry: the normalised and scaled sum of the four devices' rows. -/
module

public import proofs.«01_k».proof.Proof.Norm
public import proofs.«01_k».proof.Proof.Launch
public import Idealize.ShloMosaic.Lib.Pointwise

@[expose] public section

noncomputable section

namespace Cert.KernelIdeal.Run

open Idealize.ShloMosaic Idealize.ShloMosaic.TcCoe
open Cert.KernelIdeal.Gen

/-- Rows cast to a slot's shape and back are the rows. -/
theorem slot_back (y : Vec Ideal S32x1024 .f32) :
    shapeCast S32x1024 (shapeCast S1x1x32x1024 y rfl) shapeCasts_S1x1x32x1024_S32x1024 = y :=
  shapeCast_shapeCast y _ _

/-- Entry (i, l) of the rows computed from four blocks of rows and the scale: that of the normalised and scaled
    row i of their sum. -/
theorem rows_apply (own y0 y1 y2 : Vec Ideal S32x1024 .f32) (g : Vec Ideal S1x1024 .f32) (i : Fin 32) (l : Fin 1024) :
    rows own y0 y1 y2 g (ix2 i l)
      = Cert.Norm.normed (fun l => own (ix2 i l) + y0 (ix2 i l) + y1 (ix2 i l) + y2 (ix2 i l))
          (fun l => g (ix2 0 l)) l := by
  rw [← Cert.Norm.by_rsqrt]
  unfold rows k0_pay9
  simp only [slot_back]
  pointwise

variable (P : Dev nD → Vec Ideal S4096x1024 .f32) (G : Dev nD → Vec Ideal S1x1024 .f32)

/-- Entry (i, l) of a chunk of a partial array. -/
theorem partV_apply (c : Dev nD) (y : Fin 4) (q : Fin 8) (w : Fin 4) (i : Fin 32) (l : Fin 1024) :
    partV P c y q w (ix2 i l) = P c (ix2 ⟨1024 * y.val + 128 * q.val + 32 * w.val + i.val, by omega⟩ l) := by
  unfold partV
  refine congrArg (P c) (funext fun a => Fin.ext ?_)
  fin_cases a
  · exact congrArg (_ + ·) (Nat.one_mul _)
  · exact (Nat.zero_add _).trans (Nat.one_mul _)

/-- Entry (i, l) of a chunk of the result as an entry of the whole result. -/
theorem outRect_emb (q : Fin 8) (w : Fin 4) (i : Fin 32) (l : Fin 1024) :
    (outRect q w).emb (ix2 i l) = ix2 (⟨128 * q.val + 32 * w.val + i.val, by omega⟩ : Fin 1024) l := by
  refine funext fun a => Fin.ext ?_
  fin_cases a
  · exact congrArg (_ + ·) (Nat.one_mul _)
  · exact (Nat.zero_add _).trans (Nat.one_mul _)

/-- The sum over the devices of a line along y, from a device on, is the sum over the line. -/
theorem sum_line (f : Fin 4 → EReal) (e : Dev nD) :
    f (yy e) + f (yy (ySh (dn 0) e)) + f (yy (ySh (dn 1) e)) + f (yy (ySh (dn 2) e)) = ∑ k, f k := by
  simp only [ySh, yy_dv]
  exact Cert.Norm.sum_around f (yy e)

/-- Entry (i, l) of the rows a device computes, when every device's partial array is the part `x` gives for its
    place along y and every device has the scale `g`. -/
theorem ownV_apply (x : Fin 4 → Fin 4096 → Fin 1024 → EReal) (g : Fin 1024 → EReal)
    (hP : ∀ c r l, P c (ix2 r l) = x (yy c) r l) (hG : ∀ c l, G c (ix2 0 l) = g l)
    (c : Dev nD) (w : Fin 4) (i : Fin 32) (l : Fin 1024) :
    ownV P G c w (ix2 i l)
      = Cert.Norm.normed (fun l => ∑ k : Fin 4, x k ⟨1024 * (yy c).val + 128 * (pp c).val + 32 * w.val + i.val, by omega⟩ l) g l := by
  unfold ownV
  rw [rows_apply]
  unfold ysV
  simp only [partV_apply, hP, hG]
  congr 1
  funext l
  exact sum_line (fun k => x k ⟨1024 * (yy c).val + 128 * (pp c).val + 32 * w.val + i.val, by omega⟩ l) c

/-- Entry (r, l) of a device's gathered result, under the same hypotheses. -/
theorem outAll_apply (x : Fin 4 → Fin 4096 → Fin 1024 → EReal) (g : Fin 1024 → EReal)
    (hP : ∀ c r l, P c (ix2 r l) = x (yy c) r l) (hG : ∀ c l, G c (ix2 0 l) = g l)
    (c : Dev nD) (r : Fin 1024) (l : Fin 1024) :
    outAll P G c (ix2 r l)
      = Cert.Norm.normed (fun l => ∑ k : Fin 4, x k ⟨1024 * (yy c).val + r.val, by omega⟩ l) g l := by
  have hr := r.isLt
  have h := outAll_at P G c ⟨r.val / 128, by omega⟩ ⟨r.val % 128 / 32, by omega⟩ (ix2 ⟨r.val % 32, by omega⟩ l)
  rw [outRect_emb] at h
  unfold outV at h
  rw [ownV_apply P G x g hP hG] at h
  simp only [yy_dv, pp_dv] at h
  have e1 : (⟨128 * (r.val / 128) + 32 * (r.val % 128 / 32) + r.val % 32, by omega⟩ : Fin 1024) = r := Fin.ext (by simp only; omega)
  have e2 : (⟨1024 * (yy c).val + 128 * (r.val / 128) + 32 * (r.val % 128 / 32) + r.val % 32, by omega⟩ : Fin 4096)
      = ⟨1024 * (yy c).val + r.val, by omega⟩ := Fin.ext (by simp only; omega)
  rw [e1, e2] at h
  exact h

end Cert.KernelIdeal.Run

end
-- ==== Proof.RefValue.lean ====
/-
  What the reference computes: entry (r, l) of its result is the normalised and scaled row r of the sum of the four
  partial arrays.
-/
module

public import proofs.«01_k».proof.Proof.Norm
public import proofs.«01_k».proof.Proof.Gen.ReferenceIdeal
public import proofs.«01_k».proof.Proof.Gen.ReferenceIdeal.Run
public import Idealize.ShloMosaic.Lib.Pointwise

@[expose] public section

noncomputable section

namespace Cert.RefValue

open Idealize.ShloMosaic Idealize.SL.Sem
open Cert.ReferenceIdeal Cert.ReferenceIdeal.Gen

/-- The sum of the four partial arrays. -/
def total (x : FVec Ideal S4x4096x1024 .f32) : FVec Ideal S4096x1024 .f32 :=
  Host.reduceAdd x (constant S_ .f32 0x00000000#32) reducesTo_S4x4096x1024_S4096x1024_d0 h_S_

/-- The root of each row's mean square plus the small number. -/
def roots (y : FVec Ideal S4096x1024 .f32) : FVec Ideal S4096x1 .f32 :=
  Host.sqrt (addf
    (Host.divf
      (broadcastInDim S4096x1 ![0] bcast_S4096_S4096x1_0
        (Host.reduceAdd (mulf y y) (constant S_ .f32 0x00000000#32) reducesTo_S4096x1024_S4096_d1 h_S_))
      (broadcastInDim S4096x1 ![] bcast_S_S4096x1 (constant S_ .f32 0x44800000#32)))
    (broadcastInDim S4096x1 ![] bcast_S_S4096x1 (constant S_ .f32 0x358637BD#32)))

/-- The reference's result. -/
def out (x : FVec Ideal S4x4096x1024 .f32) (g : FVec Ideal S1024 .f32) : FVec Ideal S4096x1024 .f32 :=
  mulf (Host.divf (total x) (broadcastInDim S4096x1024 ![0, 1] bcast_S4096x1_S4096x1024_0_1 (roots (total x))))
    (broadcastInDim S4096x1024 ![0, 1] bcast_S1x1024_S4096x1024_0_1
      (broadcastInDim S1x1024 ![1] bcast_S1024_S1x1024_1 g))

/-- Its entries: the normalised and scaled rows of the sum. -/
theorem out_apply (x : FVec Ideal S4x4096x1024 .f32) (g : FVec Ideal S1024 .f32) (r : Fin 4096) (l : Fin 1024) :
    out x g (ix2 r l) = Cert.Norm.normed (fun l => ∑ k : Fin 4, x (ix3 k r l)) (fun l => g (ix1 l)) l := by
  pointwise [out, total, roots, Cert.Norm.normed]

/-- The reference ends with this result and with its arguments unchanged. -/
theorem run_out (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v13)
          = out (m ((c.tc : Thread nD τ).loc main_arg0)) (m ((c.tc : Thread nD τ).loc main_arg1))
        ∧ r.2.mem ((c.tc : Thread nD τ).loc main_arg0) = m ((c.tc : Thread nD τ).loc main_arg0)
        ∧ r.2.mem ((c.tc : Thread nD τ).loc main_arg1) = m ((c.tc : Thread nD τ).loc main_arg1)) :=
  Cert.ReferenceIdeal.Value.run (F := Ideal) m ρ

end Cert.RefValue

end
-- ==== Proof.Value.lean ====
/-
  The kernel and the reference compute the same rows. From partial arrays and a scale laid over the mesh as the
  reference's arguments are, each device ends with its block of the reference's result.
-/
module

public import proofs.«01_k».proof.Defs
public import proofs.«01_k».proof.Proof.Rows
public import proofs.«01_k».proof.Proof.RefValue
public import Idealize.ShloMosaic.Lib.StableHlo.ReadAt
public import Idealize.ShloMosaic.Lib.Pipeline.Value

@[expose] public section

noncomputable section

namespace Cert.KernelIdeal.Run

open Idealize.ShloMosaic Idealize.ShloMosaic.TcCoe
open Idealize.ShloMosaic.Pipeline (Dat)
open Cert.KernelIdeal.Gen

variable (m : (ℓ : Loc nD τ sig) → Buf (Elt Ideal) ℓ)

/-- The partial array the kernel finds is the host's reshaped one, whole. -/
theorem Pm_eq (c : Dev nD) : Pm m c = V m c main_v1 := by
  unfold Pm iblk
  exact Memref.read_access_unit_zero (Elt Ideal) main_v1 (off := fun a => win0_0.index t0_0 a * main_v1.ty.shape.size a)
    (funext fun a => by fin_cases a <;> decide) (fun a => by fin_cases a <;> decide) (V m c main_v1)

/-- The scale the kernel finds is the host's reshaped one, whole. -/
theorem Gm_eq (c : Dev nD) : Gm m c = V m c main_v2 := by
  unfold Gm iblk
  exact Memref.read_access_unit_zero (Elt Ideal) main_v2 (off := fun a => win0_1.index t0_0 a * main_v2.ty.shape.size a)
    (funext fun a => by fin_cases a <;> decide) (fun a => by fin_cases a <;> decide) (V m c main_v2)

/-- Entry (r, l) of the partial array is entry (0, r, l) of the first argument. -/
theorem Pm_apply (c : Dev nD) (r : Fin 4096) (l : Fin 1024) :
    Pm m c (ix2 r l) = m ((c : Thread nD τ).loc main_arg0) (ix3 (0 : Fin 1) r l) := by
  rw [Pm_eq]
  unfold V
  after_reads_at

/-- Entry (0, l) of the scale is entry l of the second argument. -/
theorem Gm_apply (c : Dev nD) (l : Fin 1024) :
    Gm m c (ix2 (0 : Fin 1) l) = m ((c : Thread nD τ).loc main_arg1) (ix1 l) := by
  rw [Gm_eq]
  unfold V
  after_reads_at

/-- The result array ends at the gathered rows, whole. -/
theorem result_eq (c : Dev nD) : (dats m 0 c).arrAt 2 cfg0.N = outAll (Pm m) (Gm m) c := by
  have h := (dats m 0 c).read_blk_arrAt_eq_flushed 2
    (fun t t' _ _ hne => absurd ((fin_N0 t).trans (fin_N0 t').symm) hne) cfg0.N t0_0 t0_0.isLt (flush0_2 t0_0)
  have hr : ∀ f : Buf (Elt Ideal) ((c : Thread nD τ).loc main_v3),
      ((cfg0.win 2).blk t0_0).view.read (Elt Ideal) f = f := fun f =>
    Memref.read_access_unit_zero (Elt Ideal) main_v3 (off := fun a => win0_2.index t0_0 a * main_v3.ty.shape.size a)
      (funext fun a => by fin_cases a <;> decide) (fun a => by fin_cases a <;> decide) f
  exact (hr _).symm.trans h

/-- A device's block along y is its place along y. -/
theorem part_idx (c : Dev nD) (r : Fin 4096) (l : Fin 1024) (h : Layout.TilesN ⟨3, ![1, 4096, 1024]⟩ ⟨3, ![4, 4096, 1024]⟩ _) :
    h.idx (Layout.meshBlock [2, 4, 4] ![[1], [], []] c) (ix3 (0 : Fin 1) r l) = ix3 (yy c) r l := by
  refine funext fun a => Fin.ext ?_
  rw [Layout.TilesN.idx_val]
  fin_cases a
  · show Layout.meshLin [2, 4, 4] c.val [1] * 1 + 0 = c.val / 4 % 4
    simp [Layout.meshLin, Layout.meshCoord, Layout.cutSize]
  · show 0 * 4096 + r.val = r.val
    omega
  · show 0 * 1024 + l.val = l.val
    omega

/-- Entry (r, l) of a device's block of the whole result lies 1024 rows further for each place along y. -/
theorem out_idx (c : Dev nD) (r : Fin 1024) (l : Fin 1024) (h : Layout.TilesN ⟨2, ![1024, 1024]⟩ ⟨2, ![4096, 1024]⟩ _) :
    h.idx (Layout.meshBlock [2, 4, 4] ![[1], []] c) (ix2 r l) = ix2 (⟨1024 * (yy c).val + r.val, by omega⟩ : Fin 4096) l := by
  refine funext fun a => Fin.ext ?_
  rw [Layout.TilesN.idx_val]
  fin_cases a
  · show Layout.meshLin [2, 4, 4] c.val [1] * 1024 + r.val = 1024 * (c.val / 4 % 4) + r.val
    simp [Layout.meshLin, Layout.meshCoord, Layout.cutSize, Nat.mul_comm]
  · show 0 * 1024 + l.val = l.val
    omega

/-- From arguments laid over the mesh as `x` and `g`, a device's gathered rows are its block of the reference's
    result on `x` and `g`. -/
theorem outAll_eq (x : FVec Ideal Cert.ReferenceIdeal.S4x4096x1024 .f32) (g : FVec Ideal Cert.ReferenceIdeal.S1024 .f32)
    (hx : ∀ c : Dev nD, m ((c : Thread nD τ).loc main_arg0)
      = Layout.blockN ⟨3, ![1, 4096, 1024]⟩ ⟨3, ![4, 4096, 1024]⟩ (Layout.meshBlock [2, 4, 4] ![[1], [], []] c) x)
    (hg : ∀ c : Dev nD, m ((c : Thread nD τ).loc main_arg1) = g) (c : Dev nD) :
    outAll (Pm m) (Gm m) c
      = Layout.blockN ⟨2, ![1024, 1024]⟩ ⟨2, ![4096, 1024]⟩ (Layout.meshBlock [2, 4, 4] ![[1], []] c)
          (Cert.RefValue.out x g) := by
  have hP : ∀ (c : Dev nD) (r : Fin 4096) (l : Fin 1024), Pm m c (ix2 r l) = x (ix3 (yy c) r l) := fun c r l => by
    rw [Pm_apply, hx]
    exact congrArg x (part_idx c r l _)
  have hG : ∀ (c : Dev nD) (l : Fin 1024), Gm m c (ix2 (0 : Fin 1) l) = g (ix1 l) := fun c l => by
    rw [Gm_apply, hg]
  funext j
  obtain ⟨r, l, rfl⟩ : ∃ (r : Fin 1024) (l : Fin 1024), j = ix2 r l := ⟨j 0, j 1, eq_ix2 j⟩
  rw [outAll_apply (Pm m) (Gm m) (fun k r l => x (ix3 k r l)) (fun l => g (ix1 l)) hP hG c r l]
  exact (Cert.RefValue.out_apply x g _ l).symm.trans (congrArg (Cert.RefValue.out x g) (out_idx c r l _).symm)

end Cert.KernelIdeal.Run

namespace Cert.Proof

open Idealize.ShloMosaic Idealize.SL.Sem

/-- The idealized kernel and the idealized reference agree: from matching arguments both end, their arguments
    unchanged, and each device holds its block of the reference's result. -/
theorem algebraic : Cert.algebraic_KernelIdeal_ReferenceIdeal := fun m ρ m' ρ' _ hm => by
  refine ⟨Cert.RefValue.out
    (m' (((0 : Dev Cert.ReferenceIdeal.nD).tc : Thread Cert.ReferenceIdeal.nD Cert.ReferenceIdeal.τ).loc Cert.ReferenceIdeal.main_arg0))
    (m' (((0 : Dev Cert.ReferenceIdeal.nD).tc : Thread Cert.ReferenceIdeal.nD Cert.ReferenceIdeal.τ).loc Cert.ReferenceIdeal.main_arg1)),
    (θ_run Cert.KernelIdeal.defs _ _).mono (fun r h c => ⟨?_, (h.1 c).2⟩) (Cert.KernelIdeal.Run.run_main m ρ),
    (θ_run Cert.ReferenceIdeal.defs _ _).mono (fun r h => h 0) (Cert.RefValue.run_out m' ρ')⟩
  exact ((h.1 c).1.trans (Cert.KernelIdeal.Run.result_eq m c)).trans
    (Cert.KernelIdeal.Run.outAll_eq m _ _ (fun c => (hm c).1) (fun c => (hm c).2) c)

end Cert.Proof

end
-- ==== Proof.lean ====
/-
  The claims, gathered: the frames of the kernel as printed, of its idealized printing and of the reference
  (Proof/Frames.lean, from the run of Proof/Launch.lean), the idealization, which rewrites nothing, and the agreement
  of the idealized kernel with the idealized reference (Proof/Value.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Value
public import Idealize.ShloMosaic.Adequacy
public import Idealize.ShloMosaic.Init

@[expose] public section

noncomputable section

namespace Cert.Proof

open Idealize.ShloMosaic Idealize.SL.Sem Cert.Kernel

/-- Everything that is claimed. -/
theorem claim : Cert.Claim :=
  ⟨Cert.Kernel.Gen.facts, Cert.KernelIdeal.Gen.facts, Cert.ReferenceIdeal.Gen.facts,
    frame_kernel, frame_ideal, frame_reference, trivial, algebraic⟩

end Cert.Proof

end
